-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4x100000 : Shape := ⟨3, ![128, 4, 100000]⟩
abbrev S2x4x100000 : Shape := ⟨3, ![2, 4, 100000]⟩
abbrev S8x1 : Shape := ⟨2, ![8, 1]⟩
abbrev S8x2048 : Shape := ⟨2, ![8, 2048]⟩
abbrev S2x4x2048 : Shape := ⟨3, ![2, 4, 2048]⟩
abbrev S8 : Shape := ⟨1, ![8]⟩
abbrev S8x1696 : Shape := ⟨2, ![8, 1696]⟩
abbrev S2x4x1696 : Shape := ⟨3, ![2, 4, 1696]⟩

abbrev nBuf : Space → Nat
  | .hbm => 2
  | .vmem => 4
  | .smem => 0
  | _ => 0

abbrev bufTy : (tb : Table) → Fin (tcTables nBuf tb) → BufTy
  | .hbm, ⟨0, _⟩ => ⟨S128x4x100000, .f32⟩
  | .hbm, ⟨1, _⟩ => ⟨S128x4x100000, .f32⟩
  | .local _ .vmem, ⟨0, _⟩ => ⟨S2x4x100000, .f32⟩
  | .local _ .vmem, ⟨1, _⟩ => ⟨S2x4x100000, .f32⟩
  | .local _ .vmem, ⟨2, _⟩ => ⟨S2x4x100000, .f32⟩
  | .local _ .vmem, ⟨3, _⟩ => ⟨S2x4x100000, .f32⟩
  | _, _ => ⟨S128x4x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x4x100000 : Shape := ⟨3, ![128, 4, 100000]⟩
abbrev S512x100000 : Shape := ⟨2, ![512, 100000]⟩
abbrev S_ : Shape := ⟨0, ![]⟩
abbrev S1 : Shape := ⟨1, ![1]⟩
abbrev S2 : Shape := ⟨1, ![2]⟩
abbrev S512 : Shape := ⟨1, ![512]⟩
abbrev S512x1 : Shape := ⟨2, ![512, 1]⟩
abbrev S1x100000 : Shape := ⟨2, ![1, 100000]⟩

abbrev nBuf : Space → Nat
  | .hbm => 290
  | .vmem => 0
  | .smem => 0
  | _ => 0

abbrev hbmTy0_0 (i : Nat) : BufTy := match i % 128 with
  | 0 => ⟨S128x4x100000, .f32⟩
  | 1 => ⟨S512x100000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S512x100000, .i64⟩
  | 17 => ⟨S512x100000, .i64⟩
  | 18 => ⟨S_, .i64⟩
  | 19 => ⟨S512x100000, .i64⟩
  | 20 => ⟨S512x100000, .i64⟩
  | 21 => ⟨S_, .i64⟩
  | 22 => ⟨S512x100000, .i64⟩
  | 23 => ⟨S512x100000, .i64⟩
  | 24 => ⟨S512x100000, .i64⟩
  | 25 => ⟨S_, .i64⟩
  | 26 => ⟨S512x100000, .i64⟩
  | 27 => ⟨S512x100000, .i64⟩
  | 28 => ⟨S512x100000, .i32⟩
  | 29 => ⟨S512x100000, .i32⟩
  | 30 => ⟨S_, .i32⟩
  | 31 => ⟨S_, .i32⟩
  | 32 => ⟨S_, .i32⟩
  | 33 => ⟨S512x100000, .i32⟩
  | 34 => ⟨S512x100000, .i32⟩
  | 35 => ⟨S512x100000, .i32⟩
  | 36 => ⟨S512x100000, .i32⟩
  | 37 => ⟨S512x100000, .i32⟩
  | 38 => ⟨S_, .i32⟩
  | 39 => ⟨S512x100000, .i32⟩
  | 40 => ⟨S512x100000, .i32⟩
  | 41 => ⟨S_, .i32⟩
  | 42 => ⟨S512x100000, .i32⟩
  | 43 => ⟨S512x100000, .i32⟩
  | 44 => ⟨S512x100000, .i32⟩
  | 45 => ⟨S512x100000, .i32⟩
  | 46 => ⟨S512x100000, .i32⟩
  | 47 => ⟨S_, .i32⟩
  | 48 => ⟨S512x100000, .i32⟩
  | 49 => ⟨S512x100000, .i32⟩
  | 50 => ⟨S_, .i32⟩
  | 51 => ⟨S512x100000, .i32⟩
  | 52 => ⟨S512x100000, .i32⟩
  | 53 => ⟨S512x100000, .i32⟩
  | 54 => ⟨S512x100000, .i32⟩
  | 55 => ⟨S512x100000, .i32⟩
  | 56 => ⟨S_, .i32⟩
  | 57 => ⟨S512x100000, .i32⟩
  | 58 => ⟨S512x100000, .i32⟩
  | 59 => ⟨S_, .i32⟩
  | 60 => ⟨S512x100000, .i32⟩
  | 61 => ⟨S512x100000, .i32⟩
  | 62 => ⟨S512x100000, .i32⟩
  | 63 => ⟨S512x100000, .i32⟩
  | 64 => ⟨S512x100000, .i32⟩
  | 65 => ⟨S_, .i32⟩
  | 66 => ⟨S512x100000, .i32⟩
  | 67 => ⟨S512x100000, .i32⟩
  | 68 => ⟨S_, .i32⟩
  | 69 => ⟨S512x100000, .i32⟩
  | 70 => ⟨S512x100000, .i32⟩
  | 71 => ⟨S512x100000, .i32⟩
  | 72 => ⟨S512x100000, .i32⟩
  | 73 => ⟨S512x100000, .i32⟩
  | 74 => ⟨S512x100000, .i32⟩
  | 75 => ⟨S512x100000, .i32⟩
  | 76 => ⟨S512x100000, .i32⟩
  | 77 => ⟨S_, .i32⟩
  | 78 => ⟨S512x100000, .i32⟩
  | 79 => ⟨S512x100000, .i32⟩
  | 80 => ⟨S512x100000, .i32⟩
  | 81 => ⟨S_, .i32⟩
  | 82 => ⟨S512x100000, .i32⟩
  | 83 => ⟨S512x100000, .i32⟩
  | 84 => ⟨S_, .i32⟩
  | 85 => ⟨S512x100000, .i32⟩
  | 86 => ⟨S512x100000, .i32⟩
  | 87 => ⟨S512x100000, .i32⟩
  | 88 => ⟨S512x100000, .i32⟩
  | 89 => ⟨S512x100000, .i32⟩
  | 90 => ⟨S_, .i32⟩
  | 91 => ⟨S512x100000, .i32⟩
  | 92 => ⟨S512x100000, .i32⟩
  | 93 => ⟨S_, .i32⟩
  | 94 => ⟨S512x100000, .i32⟩
  | 95 => ⟨S512x100000, .i32⟩
  | 96 => ⟨S512x100000, .i32⟩
  | 97 => ⟨S512x100000, .i32⟩
  | 98 => ⟨S512x100000, .i32⟩
  | 99 => ⟨S_, .i32⟩
  | 100 => ⟨S512x100000, .i32⟩
  | 101 => ⟨S512x100000, .i32⟩
  | 102 => ⟨S_, .i32⟩
  | 103 => ⟨S512x100000, .i32⟩
  | 104 => ⟨S512x100000, .i32⟩
  | 105 => ⟨S512x100000, .i32⟩
  | 106 => ⟨S512x100000, .i32⟩
  | 107 => ⟨S512x100000, .i32⟩
  | 108 => ⟨S_, .i32⟩
  | 109 => ⟨S512x100000, .i32⟩
  | 110 => ⟨S512x100000, .i32⟩
  | 111 => ⟨S_, .i32⟩
  | 112 => ⟨S512x100000, .i32⟩
  | 113 => ⟨S512x100000, .i32⟩
  | 114 => ⟨S512x100000, .i32⟩
  | 115 => ⟨S512x100000, .i32⟩
  | 116 => ⟨S512x100000, .i32⟩
  | 117 => ⟨S512x100000, .i32⟩
  | 118 => ⟨S512x100000, .i32⟩
  | 119 => ⟨S512x100000, .i32⟩
  | 120 => ⟨S_, .i32⟩
  | 121 => ⟨S512x100000, .i32⟩
  | 122 => ⟨S512x100000, .i32⟩
  | 123 => ⟨S512x100000, .i32⟩
  | 124 => ⟨S_, .i32⟩
  | 125 => ⟨S512x100000, .i32⟩
  | 126 => ⟨S512x100000, .i32⟩
  | 127 => ⟨S_, .i32⟩
  | _ => ⟨S128x4x100000, .f32⟩

abbrev hbmTy0_1 (i : Nat) : BufTy := match i % 128 with
  | 0 => ⟨S512x100000, .i32⟩
  | 1 => ⟨S512x100000, .i32⟩
  | 2 => ⟨S512x100000, .i32⟩
  | 3 => ⟨S512x100000, .i32⟩
  | 4 => ⟨S512x100000, .i32⟩
  | 5 => ⟨S_, .i32⟩
  | 6 => ⟨S512x100000, .i32⟩
  | 7 => ⟨S512x100000, .i32⟩
  | 8 => ⟨S_, .i32⟩
  | 9 => ⟨S512x100000, .i32⟩
  | 10 => ⟨S512x100000, .i32⟩
  | 11 => ⟨S512x100000, .i32⟩
  | 12 => ⟨S512x100000, .i32⟩
  | 13 => ⟨S512x100000, .i32⟩
  | 14 => ⟨S_, .i32⟩
  | 15 => ⟨S512x100000, .i32⟩
  | 16 => ⟨S512x100000, .i32⟩
  | 17 => ⟨S_, .i32⟩
  | 18 => ⟨S512x100000, .i32⟩
  | 19 => ⟨S512x100000, .i32⟩
  | 20 => ⟨S512x100000, .i32⟩
  | 21 => ⟨S512x100000, .i32⟩
  | 22 => ⟨S512x100000, .i32⟩
  | 23 => ⟨S_, .i32⟩
  | 24 => ⟨S512x100000, .i32⟩
  | 25 => ⟨S512x100000, .i32⟩
  | 26 => ⟨S_, .i32⟩
  | 27 => ⟨S512x100000, .i32⟩
  | 28 => ⟨S512x100000, .i32⟩
  | 29 => ⟨S512x100000, .i32⟩
  | 30 => ⟨S512x100000, .i32⟩
  | 31 => ⟨S512x100000, .i32⟩
  | 32 => ⟨S512x100000, .i32⟩
  | 33 => ⟨S512x100000, .i32⟩
  | 34 => ⟨S512x100000, .i32⟩
  | 35 => ⟨S_, .i32⟩
  | 36 => ⟨S512x100000, .i32⟩
  | 37 => ⟨S512x100000, .i32⟩
  | 38 => ⟨S512x100000, .i32⟩
  | 39 => ⟨S_, .i32⟩
  | 40 => ⟨S512x100000, .i32⟩
  | 41 => ⟨S512x100000, .i32⟩
  | 42 => ⟨S_, .i32⟩
  | 43 => ⟨S512x100000, .i32⟩
  | 44 => ⟨S512x100000, .i32⟩
  | 45 => ⟨S512x100000, .i32⟩
  | 46 => ⟨S512x100000, .i32⟩
  | 47 => ⟨S512x100000, .i32⟩
  | 48 => ⟨S_, .i32⟩
  | 49 => ⟨S512x100000, .i32⟩
  | 50 => ⟨S512x100000, .i32⟩
  | 51 => ⟨S_, .i32⟩
  | 52 => ⟨S512x100000, .i32⟩
  | 53 => ⟨S512x100000, .i32⟩
  | 54 => ⟨S512x100000, .i32⟩
  | 55 => ⟨S512x100000, .i32⟩
  | 56 => ⟨S512x100000, .i32⟩
  | 57 => ⟨S_, .i32⟩
  | 58 => ⟨S512x100000, .i32⟩
  | 59 => ⟨S512x100000, .i32⟩
  | 60 => ⟨S_, .i32⟩
  | 61 => ⟨S512x100000, .i32⟩
  | 62 => ⟨S512x100000, .i32⟩
  | 63 => ⟨S512x100000, .i32⟩
  | 64 => ⟨S512x100000, .i32⟩
  | 65 => ⟨S512x100000, .i32⟩
  | 66 => ⟨S_, .i32⟩
  | 67 => ⟨S512x100000, .i32⟩
  | 68 => ⟨S512x100000, .i32⟩
  | 69 => ⟨S_, .i32⟩
  | 70 => ⟨S512x100000, .i32⟩
  | 71 => ⟨S512x100000, .i32⟩
  | 72 => ⟨S512x100000, .i32⟩
  | 73 => ⟨S512x100000, .i32⟩
  | 74 => ⟨S512x100000, .i32⟩
  | 75 => ⟨S512x100000, .i32⟩
  | 76 => ⟨S512x100000, .i32⟩
  | 77 => ⟨S512x100000, .i32⟩
  | 78 => ⟨S_, .i32⟩
  | 79 => ⟨S512x100000, .i32⟩
  | 80 => ⟨S512x100000, .i32⟩
  | 81 => ⟨S512x100000, .i32⟩
  | 82 => ⟨S_, .i32⟩
  | 83 => ⟨S512x100000, .i32⟩
  | 84 => ⟨S512x100000, .i32⟩
  | 85 => ⟨S_, .i32⟩
  | 86 => ⟨S512x100000, .i32⟩
  | 87 => ⟨S512x100000, .i32⟩
  | 88 => ⟨S512x100000, .i32⟩
  | 89 => ⟨S512x100000, .i32⟩
  | 90 => ⟨S512x100000, .i32⟩
  | 91 => ⟨S_, .i32⟩
  | 92 => ⟨S512x100000, .i32⟩
  | 93 => ⟨S512x100000, .i32⟩
  | 94 => ⟨S_, .i32⟩
  | 95 => ⟨S512x100000, .i32⟩
  | 96 => ⟨S512x100000, .i32⟩
  | 97 => ⟨S512x100000, .i32⟩
  | 98 => ⟨S512x100000, .i32⟩
  | 99 => ⟨S512x100000, .i32⟩
  | 100 => ⟨S_, .i32⟩
  | 101 => ⟨S512x100000, .i32⟩
  | 102 => ⟨S512x100000, .i32⟩
  | 103 => ⟨S_, .i32⟩
  | 104 => ⟨S512x100000, .i32⟩
  | 105 => ⟨S512x100000, .i32⟩
  | 106 => ⟨S512x100000, .i32⟩
  | 107 => ⟨S512x100000, .i32⟩
  | 108 => ⟨S512x100000, .i32⟩
  | 109 => ⟨S_, .i32⟩
  | 110 => ⟨S512x100000, .i32⟩
  | 111 => ⟨S512x100000, .i32⟩
  | 112 => ⟨S_, .i32⟩
  | 113 => ⟨S512x100000, .i32⟩
  | 114 => ⟨S512x100000, .i32⟩
  | 115 => ⟨S512x100000, .i32⟩
  | 116 => ⟨S512x100000, .i32⟩
  | 117 => ⟨S512x100000, .i32⟩
  | 118 => ⟨S512x100000, .i32⟩
  | 119 => ⟨S512x100000, .i32⟩
  | 120 => ⟨S512x100000, .i32⟩
  | 121 => ⟨S_, .i32⟩
  | 122 => ⟨S512x100000, .i32⟩
  | 123 => ⟨S512x100000, .i32⟩
  | 124 => ⟨S512x100000, .i32⟩
  | 125 => ⟨S_, .i32⟩
  | 126 => ⟨S512x100000, .i32⟩
  | 127 => ⟨S512x100000, .i32⟩
  | _ => ⟨S128x4x100000, .f32⟩

abbrev hbmTy0_2 (i : Nat) : BufTy := match i % 128 with
  | 0 => ⟨S_, .i32⟩
  | 1 => ⟨S512x100000, .i32⟩
  | 2 => ⟨S512x100000, .i32⟩
  | 3 => ⟨S512x100000, .f32⟩
  | 4 => ⟨S_, .f32⟩
  | 5 => ⟨S512x100000, .f32⟩
  | 6 => ⟨S512x100000, .f32⟩
  | 7 => ⟨S_, .f32⟩
  | 8 => ⟨S512x100000, .f32⟩
  | 9 => ⟨S512x100000, .f32⟩
  | 10 => ⟨S_, .f32⟩
  | 11 => ⟨S512x100000, .f32⟩
  | 12 => ⟨S512x100000, .f32⟩
  | 13 => ⟨S_, .f32⟩
  | 14 => ⟨S512x100000, .f32⟩
  | 15 => ⟨S512x100000, .f32⟩
  | 16 => ⟨S512x100000, .f32⟩
  | 17 => ⟨S512x100000, .f32⟩
  | 18 => ⟨S512x100000, .f32⟩
  | 19 => ⟨S512x100000, .f32⟩
  | 20 => ⟨S512x100000, .f32⟩
  | 21 => ⟨S512x100000, .f32⟩
  | 22 => ⟨S512x100000, .i32⟩
  | 23 => ⟨S_, .f32⟩
  | 24 => ⟨S_, .i32⟩
  | 25 => ⟨S512, .f32⟩
  | 26 => ⟨S512, .i32⟩
  | 27 => ⟨S512x1, .i32⟩
  | 28 => ⟨S1x100000, .i32⟩
  | 29 => ⟨S512x100000, .i32⟩
  | 30 => ⟨S512x100000, .i32⟩
  | 31 => ⟨S512x100000, .i1⟩
  | 32 => ⟨S512x100000, .f32⟩
  | 33 => ⟨S128x4x100000, .f32⟩
  | _ => ⟨S128x4x100000, .f32⟩

abbrev hbmTy (i : Nat) : BufTy := match i / 128 with
  | 0 => hbmTy0_0 i
  | 1 => hbmTy0_1 i
  | 2 => hbmTy0_2 i
  | _ => ⟨S128x4x100000, .f32⟩

abbrev bufTy : (tb : Table) → Fin (tcTables nBuf tb) → BufTy
  | .hbm, ⟨i, _⟩ => hbmTy i
  | _, _ => ⟨S128x4x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_c_0 : Ref sig .tc := ⟨.hbm, 38, rfl⟩
abbrev main_call0_v7 : Ref sig .tc := ⟨.hbm, 39, rfl⟩
abbrev main_call0_v8 : Ref sig .tc := ⟨.hbm, 40, rfl⟩
abbrev main_call0_c_1 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_c_2 : Ref sig .tc := ⟨.hbm, 47, rfl⟩
abbrev main_call0_v14 : Ref sig .tc := ⟨.hbm, 48, rfl⟩
abbrev main_call0_v15 : Ref sig .tc := ⟨.hbm, 49, rfl⟩
abbrev main_call0_c_3 : Ref sig .tc := ⟨.hbm, 50, rfl⟩
abbrev main_call0_v16 : Ref sig .tc := ⟨.hbm, 51, rfl⟩
abbrev main_call0_v17 : Ref sig .tc := ⟨.hbm, 52, rfl⟩
abbrev main_call0_v18 : Ref sig .tc := ⟨.hbm, 53, rfl⟩
abbrev main_call0_v19 : Ref sig .tc := ⟨.hbm, 54, rfl⟩
abbrev main_call0_v20 : Ref sig .tc := ⟨.hbm, 55, rfl⟩
abbrev main_call0_c_4 : Ref sig .tc := ⟨.hbm, 56, rfl⟩
abbrev main_call0_v21 : Ref sig .tc := ⟨.hbm, 57, rfl⟩
abbrev main_call0_v22 : Ref sig .tc := ⟨.hbm, 58, rfl⟩
abbrev main_call0_c_5 : Ref sig .tc := ⟨.hbm, 59, rfl⟩
abbrev main_call0_v23 : Ref sig .tc := ⟨.hbm, 60, rfl⟩
abbrev main_call0_v24 : Ref sig .tc := ⟨.hbm, 61, rfl⟩
abbrev main_call0_v25 : Ref sig .tc := ⟨.hbm, 62, rfl⟩
abbrev main_call0_v26 : Ref sig .tc := ⟨.hbm, 63, rfl⟩
abbrev main_call0_v27 : Ref sig .tc := ⟨.hbm, 64, rfl⟩
abbrev main_call0_c_6 : Ref sig .tc := ⟨.hbm, 65, rfl⟩
abbrev main_call0_v28 : Ref sig .tc := ⟨.hbm, 66, rfl⟩
abbrev main_call0_v29 : Ref sig .tc := ⟨.hbm, 67, rfl⟩
abbrev main_call0_c_7 : Ref sig .tc := ⟨.hbm, 68, rfl⟩
abbrev main_call0_v30 : Ref sig .tc := ⟨.hbm, 69, rfl⟩
abbrev main_call0_v31 : Ref sig .tc := ⟨.hbm, 70, rfl⟩
abbrev main_call0_v32 : Ref sig .tc := ⟨.hbm, 71, rfl⟩
abbrev main_call0_v33 : Ref sig .tc := ⟨.hbm, 72, rfl⟩
abbrev main_call0_v34 : Ref sig .tc := ⟨.hbm, 73, rfl⟩
abbrev main_call0_v35 : Ref sig .tc := ⟨.hbm, 74, rfl⟩
abbrev main_call0_v36 : Ref sig .tc := ⟨.hbm, 75, rfl⟩
abbrev main_call0_v37 : Ref sig .tc := ⟨.hbm, 76, rfl⟩
abbrev main_call0_c_8 : Ref sig .tc := ⟨.hbm, 77, rfl⟩
abbrev main_call0_v38 : Ref sig .tc := ⟨.hbm, 78, rfl⟩
abbrev main_call0_v39 : Ref sig .tc := ⟨.hbm, 79, rfl⟩
abbrev main_call0_v40 : Ref sig .tc := ⟨.hbm, 80, rfl⟩
abbrev main_call0_c_9 : Ref sig .tc := ⟨.hbm, 81, rfl⟩
abbrev main_call0_v41 : Ref sig .tc := ⟨.hbm, 82, rfl⟩
abbrev main_call0_v42 : Ref sig .tc := ⟨.hbm, 83, rfl⟩
abbrev main_call0_c_10 : Ref sig .tc := ⟨.hbm, 84, rfl⟩
abbrev main_call0_v43 : Ref sig .tc := ⟨.hbm, 85, rfl⟩
abbrev main_call0_v44 : Ref sig .tc := ⟨.hbm, 86, rfl⟩
abbrev main_call0_v45 : Ref sig .tc := ⟨.hbm, 87, rfl⟩
abbrev main_call0_v46 : Ref sig .tc := ⟨.hbm, 88, rfl⟩
abbrev main_call0_v47 : Ref sig .tc := ⟨.hbm, 89, rfl⟩
abbrev main_call0_c_11 : Ref sig .tc := ⟨.hbm, 90, rfl⟩
abbrev main_call0_v48 : Ref sig .tc := ⟨.hbm, 91, rfl⟩
abbrev main_call0_v49 : Ref sig .tc := ⟨.hbm, 92, rfl⟩
abbrev main_call0_c_12 : Ref sig .tc := ⟨.hbm, 93, rfl⟩
abbrev main_call0_v50 : Ref sig .tc := ⟨.hbm, 94, rfl⟩
abbrev main_call0_v51 : Ref sig .tc := ⟨.hbm, 95, rfl⟩
abbrev main_call0_v52 : Ref sig .tc := ⟨.hbm, 96, rfl⟩
abbrev main_call0_v53 : Ref sig .tc := ⟨.hbm, 97, rfl⟩
abbrev main_call0_v54 : Ref sig .tc := ⟨.hbm, 98, rfl⟩
abbrev main_call0_c_13 : Ref sig .tc := ⟨.hbm, 99, rfl⟩
abbrev main_call0_v55 : Ref sig .tc := ⟨.hbm, 100, rfl⟩
abbrev main_call0_v56 : Ref sig .tc := ⟨.hbm, 101, rfl⟩
abbrev main_call0_c_14 : Ref sig .tc := ⟨.hbm, 102, rfl⟩
abbrev main_call0_v57 : Ref sig .tc := ⟨.hbm, 103, rfl⟩
abbrev main_call0_v58 : Ref sig .tc := ⟨.hbm, 104, rfl⟩
abbrev main_call0_v59 : Ref sig .tc := ⟨.hbm, 105, rfl⟩
abbrev main_call0_v60 : Ref sig .tc := ⟨.hbm, 106, rfl⟩
abbrev main_call0_v61 : Ref sig .tc := ⟨.hbm, 107, rfl⟩
abbrev main_call0_c_15 : Ref sig .tc := ⟨.hbm, 108, rfl⟩
abbrev main_call0_v62 : Ref sig .tc := ⟨.hbm, 109, rfl⟩
abbrev main_call0_v63 : Ref sig .tc := ⟨.hbm, 110, rfl⟩
abbrev main_call0_c_16 : Ref sig .tc := ⟨.hbm, 111, rfl⟩
abbrev main_call0_v64 : Ref sig .tc := ⟨.hbm, 112, rfl⟩
abbrev main_call0_v65 : Ref sig .tc := ⟨.hbm, 113, rfl⟩
abbrev main_call0_v66 : Ref sig .tc := ⟨.hbm, 114, rfl⟩
abbrev main_call0_v67 : Ref sig .tc := ⟨.hbm, 115, rfl⟩
abbrev main_call0_v68 : Ref sig .tc := ⟨.hbm, 116, rfl⟩
abbrev main_call0_v69 : Ref sig .tc := ⟨.hbm, 117, rfl⟩
abbrev main_call0_v70 : Ref sig .tc := ⟨.hbm, 118, rfl⟩
abbrev main_call0_v71 : Ref sig .tc := ⟨.hbm, 119, rfl⟩
abbrev main_call0_c_17 : Ref sig .tc := ⟨.hbm, 120, rfl⟩
abbrev main_call0_v72 : Ref sig .tc := ⟨.hbm, 121, rfl⟩
abbrev main_call0_v73 : Ref sig .tc := ⟨.hbm, 122, rfl⟩
abbrev main_call0_v74 : Ref sig .tc := ⟨.hbm, 123, rfl⟩
abbrev main_call0_c_18 : Ref sig .tc := ⟨.hbm, 124, rfl⟩
abbrev main_call0_v75 : Ref sig .tc := ⟨.hbm, 125, rfl⟩
abbrev main_call0_v76 : Ref sig .tc := ⟨.hbm, 126, rfl⟩
abbrev main_call0_c_19 : Ref sig .tc := ⟨.hbm, 127, rfl⟩
abbrev main_call0_v77 : Ref sig .tc := ⟨.hbm, 128, rfl⟩
abbrev main_call0_v78 : Ref sig .tc := ⟨.hbm, 129, rfl⟩
abbrev main_call0_v79 : Ref sig .tc := ⟨.hbm, 130, rfl⟩
abbrev main_call0_v80 : Ref sig .tc := ⟨.hbm, 131, rfl⟩
abbrev main_call0_v81 : Ref sig .tc := ⟨.hbm, 132, rfl⟩
abbrev main_call0_c_20 : Ref sig .tc := ⟨.hbm, 133, rfl⟩
abbrev main_call0_v82 : Ref sig .tc := ⟨.hbm, 134, rfl⟩
abbrev main_call0_v83 : Ref sig .tc := ⟨.hbm, 135, rfl⟩
abbrev main_call0_c_21 : Ref sig .tc := ⟨.hbm, 136, rfl⟩
abbrev main_call0_v84 : Ref sig .tc := ⟨.hbm, 137, rfl⟩
abbrev main_call0_v85 : Ref sig .tc := ⟨.hbm, 138, rfl⟩
abbrev main_call0_v86 : Ref sig .tc := ⟨.hbm, 139, rfl⟩
abbrev main_call0_v87 : Ref sig .tc := ⟨.hbm, 140, rfl⟩
abbrev main_call0_v88 : Ref sig .tc := ⟨.hbm, 141, rfl⟩
abbrev main_call0_c_22 : Ref sig .tc := ⟨.hbm, 142, rfl⟩
abbrev main_call0_v89 : Ref sig .tc := ⟨.hbm, 143, rfl⟩
abbrev main_call0_v90 : Ref sig .tc := ⟨.hbm, 144, rfl⟩
abbrev main_call0_c_23 : Ref sig .tc := ⟨.hbm, 145, rfl⟩
abbrev main_call0_v91 : Ref sig .tc := ⟨.hbm, 146, rfl⟩
abbrev main_call0_v92 : Ref sig .tc := ⟨.hbm, 147, rfl⟩
abbrev main_call0_v93 : Ref sig .tc := ⟨.hbm, 148, rfl⟩
abbrev main_call0_v94 : Ref sig .tc := ⟨.hbm, 149, rfl⟩
abbrev main_call0_v95 : Ref sig .tc := ⟨.hbm, 150, rfl⟩
abbrev main_call0_c_24 : Ref sig .tc := ⟨.hbm, 151, rfl⟩
abbrev main_call0_v96 : Ref sig .tc := ⟨.hbm, 152, rfl⟩
abbrev main_call0_v97 : Ref sig .tc := ⟨.hbm, 153, rfl⟩
abbrev main_call0_c_25 : Ref sig .tc := ⟨.hbm, 154, rfl⟩
abbrev main_call0_v98 : Ref sig .tc := ⟨.hbm, 155, rfl⟩
abbrev main_call0_v99 : Ref sig .tc := ⟨.hbm, 156, rfl⟩
abbrev main_call0_v100 : Ref sig .tc := ⟨.hbm, 157, rfl⟩
abbrev main_call0_v101 : Ref sig .tc := ⟨.hbm, 158, rfl⟩
abbrev main_call0_v102 : Ref sig .tc := ⟨.hbm, 159, rfl⟩
abbrev main_call0_v103 : Ref sig .tc := ⟨.hbm, 160, rfl⟩
abbrev main_call0_v104 : Ref sig .tc := ⟨.hbm, 161, rfl⟩
abbrev main_call0_v105 : Ref sig .tc := ⟨.hbm, 162, rfl⟩
abbrev main_call0_c_26 : Ref sig .tc := ⟨.hbm, 163, rfl⟩
abbrev main_call0_v106 : Ref sig .tc := ⟨.hbm, 164, rfl⟩
abbrev main_call0_v107 : Ref sig .tc := ⟨.hbm, 165, rfl⟩
abbrev main_call0_v108 : Ref sig .tc := ⟨.hbm, 166, rfl⟩
abbrev main_call0_c_27 : Ref sig .tc := ⟨.hbm, 167, rfl⟩
abbrev main_call0_v109 : Ref sig .tc := ⟨.hbm, 168, rfl⟩
abbrev main_call0_v110 : Ref sig .tc := ⟨.hbm, 169, rfl⟩
abbrev main_call0_c_28 : Ref sig .tc := ⟨.hbm, 170, rfl⟩
abbrev main_call0_v111 : Ref sig .tc := ⟨.hbm, 171, rfl⟩
abbrev main_call0_v112 : Ref sig .tc := ⟨.hbm, 172, rfl⟩
abbrev main_call0_v113 : Ref sig .tc := ⟨.hbm, 173, rfl⟩
abbrev main_call0_v114 : Ref sig .tc := ⟨.hbm, 174, rfl⟩
abbrev main_call0_v115 : Ref sig .tc := ⟨.hbm, 175, rfl⟩
abbrev main_call0_c_29 : Ref sig .tc := ⟨.hbm, 176, rfl⟩
abbrev main_call0_v116 : Ref sig .tc := ⟨.hbm, 177, rfl⟩
abbrev main_call0_v117 : Ref sig .tc := ⟨.hbm, 178, rfl⟩
abbrev main_call0_c_30 : Ref sig .tc := ⟨.hbm, 179, rfl⟩
abbrev main_call0_v118 : Ref sig .tc := ⟨.hbm, 180, rfl⟩
abbrev main_call0_v119 : Ref sig .tc := ⟨.hbm, 181, rfl⟩
abbrev main_call0_v120 : Ref sig .tc := ⟨.hbm, 182, rfl⟩
abbrev main_call0_v121 : Ref sig .tc := ⟨.hbm, 183, rfl⟩
abbrev main_call0_v122 : Ref sig .tc := ⟨.hbm, 184, rfl⟩
abbrev main_call0_c_31 : Ref sig .tc := ⟨.hbm, 185, rfl⟩
abbrev main_call0_v123 : Ref sig .tc := ⟨.hbm, 186, rfl⟩
abbrev main_call0_v124 : Ref sig .tc := ⟨.hbm, 187, rfl⟩
abbrev main_call0_c_32 : Ref sig .tc := ⟨.hbm, 188, rfl⟩
abbrev main_call0_v125 : Ref sig .tc := ⟨.hbm, 189, rfl⟩
abbrev main_call0_v126 : Ref sig .tc := ⟨.hbm, 190, rfl⟩
abbrev main_call0_v127 : Ref sig .tc := ⟨.hbm, 191, rfl⟩
abbrev main_call0_v128 : Ref sig .tc := ⟨.hbm, 192, rfl⟩
abbrev main_call0_v129 : Ref sig .tc := ⟨.hbm, 193, rfl⟩
abbrev main_call0_c_33 : Ref sig .tc := ⟨.hbm, 194, rfl⟩
abbrev main_call0_v130 : Ref sig .tc := ⟨.hbm, 195, rfl⟩
abbrev main_call0_v131 : Ref sig .tc := ⟨.hbm, 196, rfl⟩
abbrev main_call0_c_34 : Ref sig .tc := ⟨.hbm, 197, rfl⟩
abbrev main_call0_v132 : Ref sig .tc := ⟨.hbm, 198, rfl⟩
abbrev main_call0_v133 : Ref sig .tc := ⟨.hbm, 199, rfl⟩
abbrev main_call0_v134 : Ref sig .tc := ⟨.hbm, 200, rfl⟩
abbrev main_call0_v135 : Ref sig .tc := ⟨.hbm, 201, rfl⟩
abbrev main_call0_v136 : Ref sig .tc := ⟨.hbm, 202, rfl⟩
abbrev main_call0_v137 : Ref sig .tc := ⟨.hbm, 203, rfl⟩
abbrev main_call0_v138 : Ref sig .tc := ⟨.hbm, 204, rfl⟩
abbrev main_call0_v139 : Ref sig .tc := ⟨.hbm, 205, rfl⟩
abbrev main_call0_c_35 : Ref sig .tc := ⟨.hbm, 206, rfl⟩
abbrev main_call0_v140 : Ref sig .tc := ⟨.hbm, 207, rfl⟩
abbrev main_call0_v141 : Ref sig .tc := ⟨.hbm, 208, rfl⟩
abbrev main_call0_v142 : Ref sig .tc := ⟨.hbm, 209, rfl⟩
abbrev main_call0_c_36 : Ref sig .tc := ⟨.hbm, 210, rfl⟩
abbrev main_call0_v143 : Ref sig .tc := ⟨.hbm, 211, rfl⟩
abbrev main_call0_v144 : Ref sig .tc := ⟨.hbm, 212, rfl⟩
abbrev main_call0_c_37 : Ref sig .tc := ⟨.hbm, 213, rfl⟩
abbrev main_call0_v145 : Ref sig .tc := ⟨.hbm, 214, rfl⟩
abbrev main_call0_v146 : Ref sig .tc := ⟨.hbm, 215, rfl⟩
abbrev main_call0_v147 : Ref sig .tc := ⟨.hbm, 216, rfl⟩
abbrev main_call0_v148 : Ref sig .tc := ⟨.hbm, 217, rfl⟩
abbrev main_call0_v149 : Ref sig .tc := ⟨.hbm, 218, rfl⟩
abbrev main_call0_c_38 : Ref sig .tc := ⟨.hbm, 219, rfl⟩
abbrev main_call0_v150 : Ref sig .tc := ⟨.hbm, 220, rfl⟩
abbrev main_call0_v151 : Ref sig .tc := ⟨.hbm, 221, rfl⟩
abbrev main_call0_c_39 : Ref sig .tc := ⟨.hbm, 222, rfl⟩
abbrev main_call0_v152 : Ref sig .tc := ⟨.hbm, 223, rfl⟩
abbrev main_call0_v153 : Ref sig .tc := ⟨.hbm, 224, rfl⟩
abbrev main_call0_v154 : Ref sig .tc := ⟨.hbm, 225, rfl⟩
abbrev main_call0_v155 : Ref sig .tc := ⟨.hbm, 226, rfl⟩
abbrev main_call0_v156 : Ref sig .tc := ⟨.hbm, 227, rfl⟩
abbrev main_call0_c_40 : Ref sig .tc := ⟨.hbm, 228, rfl⟩
abbrev main_call0_v157 : Ref sig .tc := ⟨.hbm, 229, rfl⟩
abbrev main_call0_v158 : Ref sig .tc := ⟨.hbm, 230, rfl⟩
abbrev main_call0_c_41 : Ref sig .tc := ⟨.hbm, 231, rfl⟩
abbrev main_call0_v159 : Ref sig .tc := ⟨.hbm, 232, rfl⟩
abbrev main_call0_v160 : Ref sig .tc := ⟨.hbm, 233, rfl⟩
abbrev main_call0_v161 : Ref sig .tc := ⟨.hbm, 234, rfl⟩
abbrev main_call0_v162 : Ref sig .tc := ⟨.hbm, 235, rfl⟩
abbrev main_call0_v163 : Ref sig .tc := ⟨.hbm, 236, rfl⟩
abbrev main_call0_c_42 : Ref sig .tc := ⟨.hbm, 237, rfl⟩
abbrev main_call0_v164 : Ref sig .tc := ⟨.hbm, 238, rfl⟩
abbrev main_call0_v165 : Ref sig .tc := ⟨.hbm, 239, rfl⟩
abbrev main_call0_c_43 : Ref sig .tc := ⟨.hbm, 240, rfl⟩
abbrev main_call0_v166 : Ref sig .tc := ⟨.hbm, 241, rfl⟩
abbrev main_call0_v167 : Ref sig .tc := ⟨.hbm, 242, rfl⟩
abbrev main_call0_v168 : Ref sig .tc := ⟨.hbm, 243, rfl⟩
abbrev main_call0_v169 : Ref sig .tc := ⟨.hbm, 244, rfl⟩
abbrev main_call0_v170 : Ref sig .tc := ⟨.hbm, 245, rfl⟩
abbrev main_v23_0 : Ref sig .tc := ⟨.hbm, 246, rfl⟩
abbrev main_call0_v172 : Ref sig .tc := ⟨.hbm, 247, rfl⟩
abbrev main_call0_v173 : Ref sig .tc := ⟨.hbm, 248, rfl⟩
abbrev main_call0_c_44 : Ref sig .tc := ⟨.hbm, 249, rfl⟩
abbrev main_call0_v174 : Ref sig .tc := ⟨.hbm, 250, rfl⟩
abbrev main_v23_1 : Ref sig .tc := ⟨.hbm, 251, rfl⟩
abbrev main_v24 : Ref sig .tc := ⟨.hbm, 252, rfl⟩
abbrev main_c_5 : Ref sig .tc := ⟨.hbm, 253, rfl⟩
abbrev main_v25 : Ref sig .tc := ⟨.hbm, 254, rfl⟩
abbrev main_v26 : Ref sig .tc := ⟨.hbm, 255, rfl⟩
abbrev main_c_6 : Ref sig .tc := ⟨.hbm, 256, rfl⟩
abbrev main_v27 : Ref sig .tc := ⟨.hbm, 257, rfl⟩
abbrev main_v28 : Ref sig .tc := ⟨.hbm, 258, rfl⟩
abbrev main_v29 : Ref sig .tc := ⟨.hbm, 259, rfl⟩
abbrev main_cst : Ref sig .tc := ⟨.hbm, 260, rfl⟩
abbrev main_v30 : Ref sig .tc := ⟨.hbm, 261, rfl⟩
abbrev main_v31 : Ref sig .tc := ⟨.hbm, 262, rfl⟩
abbrev main_cst_7 : Ref sig .tc := ⟨.hbm, 263, rfl⟩
abbrev main_v32 : Ref sig .tc := ⟨.hbm, 264, rfl⟩
abbrev main_v33 : Ref sig .tc := ⟨.hbm, 265, rfl⟩
abbrev main_cst_8 : Ref sig .tc := ⟨.hbm, 266, rfl⟩
abbrev main_v34 : Ref sig .tc := ⟨.hbm, 267, rfl⟩
abbrev main_v35 : Ref sig .tc := ⟨.hbm, 268, rfl⟩
abbrev main_cst_9 : Ref sig .tc := ⟨.hbm, 269, rfl⟩
abbrev main_v36 : Ref sig .tc := ⟨.hbm, 270, rfl⟩
abbrev main_v37 : Ref sig .tc := ⟨.hbm, 271, rfl⟩
abbrev main_v38 : Ref sig .tc := ⟨.hbm, 272, rfl⟩
abbrev main_v39 : Ref sig .tc := ⟨.hbm, 273, rfl⟩
abbrev main_v40 : Ref sig .tc := ⟨.hbm, 274, rfl⟩
abbrev main_v41 : Ref sig .tc := ⟨.hbm, 275, rfl⟩
abbrev main_v42 : Ref sig .tc := ⟨.hbm, 276, rfl⟩
abbrev main_v43 : Ref sig .tc := ⟨.hbm, 277, rfl⟩
abbrev main_call1_v0 : Ref sig .tc := ⟨.hbm, 278, rfl⟩
abbrev main_call1_cst : Ref sig .tc := ⟨.hbm, 279, rfl⟩
abbrev main_call1_c : Ref sig .tc := ⟨.hbm, 280, rfl⟩
abbrev main_call1_v1_0 : Ref sig .tc := ⟨.hbm, 281, rfl⟩
abbrev main_v44 : Ref sig .tc := ⟨.hbm, 282, rfl⟩
abbrev main_call2_v0 : Ref sig .tc := ⟨.hbm, 283, rfl⟩
abbrev main_call2_v1 : Ref sig .tc := ⟨.hbm, 284, rfl⟩
abbrev main_call2_v2 : Ref sig .tc := ⟨.hbm, 285, rfl⟩
abbrev main_call2_v3 : Ref sig .tc := ⟨.hbm, 286, rfl⟩
abbrev main_call2_v4 : Ref sig .tc := ⟨.hbm, 287, rfl⟩
abbrev main_v45 : Ref sig .tc := ⟨.hbm, 288, rfl⟩
abbrev main_v46 : Ref sig .tc := ⟨.hbm, 289, rfl⟩

abbrev nD : Nat := 1
abbrev τ : Topo := Topo.v7x

variable {F : FTy → Type} [FloatOps F]
-- ==== Proof.Sample.Chunk.lean ====
/-
  What the sampling kernel computes in registers, written once for a chunk of any width: the random word of a counter
  (twenty threefry rounds on the key (0, 42)), the Gumbel score made of that word and a probability, the running maximum
  of the full chunks with the chunk it was first met in, the row's winning column, and the one-hot rows of one chunk.
  Every function is made of the operations the program prints, at any float instance.
-/
module

public import proofs.«01_k».proof.Proof.Gen.KernelIdeal

@[expose] public section

noncomputable section

namespace Cert.KernelIdeal.Sample

open Cert.KernelIdeal Cert.KernelIdeal.Gen
open Idealize.ShloMosaic Idealize.SL.Sem

variable {F : FTy → Type} [FloatOps F]

/-- One mixing: the word `y` rotated left by `a` (right by `b`), exclusive-or `x`. -/
def mix {S : Shape} (a b : BitVec 32) (y x : IVec S 32) : IVec S 32 :=
  xori (ori (shli y (broadcast S a)) (shrui y (broadcast S b))) x

/-- A word plus a constant of the key schedule. -/
def plus {S : Shape} (y : IVec S 32) (k : BitVec 32) : IVec S 32 := addi y (broadcast S k)

/-- The random words of the counters `c` (the key's second word already added to them). -/
def words {S : Shape} (c : IVec S 32) : IVec S 32 :=
  let y1 := mix 13#32 19#32 c c
  let x1 := addi c y1
  let y2 := mix 15#32 17#32 y1 x1
  let x2 := addi x1 y2
  let y3 := mix 26#32 6#32 y2 x2
  let x3 := addi x2 y3
  let y4 := mix 6#32 26#32 y3 x3
  let u4 := plus x3 42#32
  let w4 := plus y4 466689009#32
  let x4 := addi u4 w4
  let y5 := mix 17#32 15#32 w4 x4
  let x5 := addi x4 y5
  let y6 := mix 29#32 3#32 y5 x5
  let x6 := addi x5 y6
  let y7 := mix 16#32 16#32 y6 x6
  let x7 := addi x6 y7
  let y8 := mix 24#32 8#32 y7 x7
  let u8 := plus x7 466689008#32
  let w8 := plus y8 2#32
  let x8 := addi u8 w8
  let y9 := mix 13#32 19#32 w8 x8
  let x9 := addi x8 y9
  let y10 := mix 15#32 17#32 y9 x9
  let x10 := addi x9 y10
  let y11 := mix 26#32 6#32 y10 x10
  let x11 := addi x10 y11
  let y12 := mix 6#32 26#32 y11 x11
  let w12 := plus y12 45#32
  let x12 := addi x11 w12
  let y13 := mix 17#32 15#32 w12 x12
  let x13 := addi x12 y13
  let y14 := mix 29#32 3#32 y13 x13
  let x14 := addi x13 y14
  let y15 := mix 16#32 16#32 y14 x14
  let x15 := addi x14 y15
  let y16 := mix 24#32 8#32 y15 x15
  let u16 := plus x15 42#32
  let w16 := plus y16 466689012#32
  let x16 := addi u16 w16
  let y17 := mix 13#32 19#32 w16 x16
  let x17 := addi x16 y17
  let y18 := mix 15#32 17#32 y17 x17
  let x18 := addi x17 y18
  let y19 := mix 26#32 6#32 y18 x18
  let x19 := addi x18 y19
  let y20 := mix 6#32 26#32 y19 x19
  let u20 := plus x19 466689008#32
  let w20 := plus y20 5#32
  xori u20 w20

/-- The Gumbel noise of random words: `-log(-log u)`, `u` the uniform float of a word's 23 high bits. -/
def noise {S : Shape} (b : IVec S 32) : FVec F S .f32 :=
  let f := subf (bitcastToFloat .f32 (ori (shrui b (broadcast S 9#32)) (broadcast S 1065353216#32)))
    (broadcast S (Scalar.ofBits .f32 0x3F800000#32))
  let u := maximumf (broadcast S (Scalar.ofBits .f32 0x00800000#32)) (addf f (broadcast S (Scalar.ofBits .f32 0x00800000#32)))
  subf (broadcast S (Scalar.ofBits .f32 0x00000000#32)) (log (subf (broadcast S (Scalar.ofBits .f32 0x00000000#32)) (log u)))

/-- The scores of a chunk: each counter's noise plus the logarithm of its probability. -/
def score {S : Shape} (c : IVec S 32) (p : FVec F S .f32) : FVec F S .f32 := addf (noise (words c)) (log p)

/-- The flat index of each of the block's rows' first element, at grid point `i`. -/
def rowBase (i : grid0.Coords) : IVec S8x1 32 :=
  muli (addi (iota .tc S8x1 32 [0] iota_S8x1_d0_w32) (broadcast S8x1 (Scalar.muli (BitVec.ofNat 32 (i 0).val) 8#32)))
    (broadcast S8x1 100000#32)

/-- The counters of chunk 0. -/
def ctr0 (i : grid0.Coords) : IVec S8x2048 32 :=
  addi (addi (broadcastTo S8x2048 (rowBase i) broadcasts_S8x1_S8x2048) (iota .tc S8x2048 32 [1] iota_S8x2048_d1_w32))
    (broadcast S8x2048 42#32)

/-- What the scan of the full chunks carries: each lane's maximum so far and the chunk it was first met in. -/
structure Best (F : FTy → Type) where
  m : FVec F S8x2048 .f32
  j : IVec S8x2048 32

/-- Before the first chunk: minus infinity, chunk 0. -/
def best0 : Best F := ⟨broadcast S8x2048 (Scalar.ofBits .f32 0xFF800000#32), broadcast S8x2048 0#32⟩

/-- One full chunk: a lane whose score is greater takes the score and the chunk's number. -/
def step (c0 : IVec S8x2048 32) (j : ℕ) (x : Vec F S2x4x2048 .f32) (s : Best F) : Best F :=
  let sc := score (addi c0 (broadcast S8x2048 (BitVec.ofNat 32 (2048 * j)))) (shapeCast S8x2048 x shapeCasts_S2x4x2048_S8x2048)
  ⟨select (cmpf .ogt sc s.m) sc s.m, select (cmpf .ogt sc s.m) (broadcast S8x2048 (BitVec.ofNat 32 j)) s.j⟩

/-- Each row's maximum over the full chunks. -/
def fullMax (s : Best F) : FVec F S8x1 .f32 :=
  shapeCast S8x1 (multiReduction .maximumf [1] S8 s.m 0xFF800000#32 reduces_S8x2048_S8 (.inl rfl) rfl) shapeCasts_S8_S8x1

/-- Each row's least column of a full chunk that attains its maximum. -/
def fullArg (s : Best F) : IVec S8x1 32 :=
  shapeCast S8x1 (multiReductionI .minsi [1] S8
    (select (cmpf .oeq s.m (broadcastTo S8x2048 (fullMax s) broadcasts_S8x1_S8x2048))
      (addi (muli s.j (broadcast S8x2048 2048#32)) (iota .tc S8x2048 32 [1] iota_S8x2048_d1_w32)) (broadcast S8x2048 100000#32))
    2147483647#32 reduces_S8x2048_S8 rfl) shapeCasts_S8_S8x1

/-- The scores of the remaining 1696 columns. -/
def tailScore (i : grid0.Coords) (x : Vec F S2x4x1696 .f32) : FVec F S8x1696 .f32 :=
  score (addi (addi (broadcastTo S8x1696 (rowBase i) broadcasts_S8x1_S8x1696) (iota .tc S8x1696 32 [1] iota_S8x1696_d1_w32))
    (broadcast S8x1696 98346#32)) (shapeCast S8x1696 x shapeCasts_S2x4x1696_S8x1696)

/-- Each row's maximum over scores of the remaining columns. -/
def tailMax (sc : FVec F S8x1696 .f32) : FVec F S8x1 .f32 :=
  shapeCast S8x1 (multiReduction .maximumf [1] S8 sc 0xFF800000#32 reduces_S8x1696_S8 (.inl rfl) rfl) shapeCasts_S8_S8x1

/-- Each row's least remaining column that attains their maximum. -/
def tailArg (sc : FVec F S8x1696 .f32) : IVec S8x1 32 :=
  shapeCast S8x1 (multiReductionI .minsi [1] S8
    (select (cmpf .oeq sc (broadcastTo S8x1696 (tailMax sc) broadcasts_S8x1_S8x1696))
      (addi (iota .tc S8x1696 32 [1] iota_S8x1696_d1_w32) (broadcast S8x1696 98304#32)) (broadcast S8x1696 100000#32))
    2147483647#32 reduces_S8x1696_S8 rfl) shapeCasts_S8_S8x1

/-- Each row's winning column: a remaining one only if its score is greater than every full chunk's. -/
def winner (s : Best F) (sc : FVec F S8x1696 .f32) : IVec S8x1 32 :=
  select (cmpf .ogt (tailMax sc) (fullMax s)) (tailArg sc) (fullArg s)

/-- Full chunk `j` of the one-hot rows of winning columns `b`. -/
def hot (b : IVec S8x1 32) (j : ℕ) : FVec F S2x4x2048 .f32 :=
  shapeCast S2x4x2048 (sitofp .f32 (extui 32 (cmpi .eq (iota .tc S8x2048 32 [1] iota_S8x2048_d1_w32)
    (broadcastTo S8x2048 (subi b (broadcast S8x1 (BitVec.ofNat 32 (2048 * j)))) broadcasts_S8x1_S8x2048)) natLt_1_32))
    shapeCasts_S8x2048_S2x4x2048

/-- The remaining columns of the one-hot rows. -/
def hotTail (b : IVec S8x1 32) : FVec F S2x4x1696 .f32 :=
  shapeCast S2x4x1696 (sitofp .f32 (extui 32 (cmpi .eq (iota .tc S8x1696 32 [1] iota_S8x1696_d1_w32)
    (broadcastTo S8x1696 (subi b (broadcast S8x1 98304#32)) broadcasts_S8x1_S8x1696)) natLt_1_32))
    shapeCasts_S8x1696_S2x4x1696

end Cert.KernelIdeal.Sample

end
-- ==== Proof.Sample.Body.lean ====
/-
  The kernel's body as a loop: the printed body, 12743 statements long, is the scan of the 48 full chunks, the remaining
  columns' load, and the stores of the one-hot chunks, by definition.
-/
module

public import proofs.«01_k».proof.Proof.Sample.Chunk
public import Idealize.ShloMosaic.Lib.Tactic

@[expose] public section

set_option maxRecDepth 16384

noncomputable section

namespace Cert.KernelIdeal.Sample

open Cert.KernelIdeal Cert.KernelIdeal.Gen
open Idealize.ShloMosaic Idealize.SL.Sem

variable {F : FTy → Type} [FloatOps F]

/-- A full chunk lies inside the block. -/
theorem chunk_inb {j : ℕ} (h : j < 48) (a : Fin 3) : (![0, 0, 2048 * j] : Fin 3 → ℕ) a + S2x4x2048.size a ≤ S2x4x100000.size a := by
  fin_cases a
  · show 0 + 2 ≤ 2
    omega
  · show 0 + 4 ≤ 4
    omega
  · show 2048 * j + 2048 ≤ 100000
    omega

/-- The remaining columns lie inside the block. -/
theorem tail_inb (a : Fin 3) : (![0, 0, 98304] : Fin 3 → ℕ) a + S2x4x1696.size a ≤ S2x4x100000.size a := by
  fin_cases a <;> decide

/-- Full chunk `j`'s columns of a block. -/
abbrev chunkRect (j : ℕ) (h : j < 48) : Rect S2x4x100000 :=
  Rect.unit (s := S2x4x100000) ![0, 0, 2048 * j] S2x4x2048.size (chunk_inb h)

/-- The remaining columns of a block. -/
abbrev tailRect : Rect S2x4x100000 := Rect.unit (s := S2x4x100000) ![0, 0, 98304] S2x4x1696.size tail_inb

/-- A program of the kernel's effects. -/
abbrev KProg (F : FTy → Type) [FloatOps F] : Type 1 := Prog (TpuEff nD τ sig (Elt F) Λ₀ .tc) PUnit

/-- `n` full chunks loaded from number `j` on, each taken into what the scan carries, then `k`. -/
def scan (arg1 : Memref sig .tc .vmem S2x4x100000 .f32) (c0 : IVec S8x2048 32) (k : Best F → KProg F) :
    (n j : ℕ) → j + n ≤ 48 → Best F → KProg F
  | 0, _, _, s => k s
  | n + 1, j, h, s =>
    .op (.load arg1 (chunkRect j (by omega)).toLoadRect (View.loadsAt_vmem h_S2x4x2048))
      fun x => scan arg1 c0 k n (j + 1) (by omega) (step c0 j x s)

/-- `n` chunks of the one-hot rows stored from number `j` on, then `k`. -/
def emit (arg2 : Memref sig .tc .vmem S2x4x100000 .f32) (b : IVec S8x1 32) (k : KProg F) : (n j : ℕ) → j + n ≤ 48 → KProg F
  | 0, _, _ => k
  | n + 1, j, h =>
    .op (.load arg2 (chunkRect j (by omega)).toLoadRect (View.loadsAt_vmem h_S2x4x2048)) fun _ =>
    .op (.store arg2 (chunkRect j (by omega)) (hot b j) Finset.univ (View.stores_vmem_bits_univ h_S2x4x2048 rfl) (.inl rfl)) fun _ =>
      emit arg2 b k n (j + 1) (by omega)

/-- The last store: the remaining columns. -/
def emitTail (arg2 : Memref sig .tc .vmem S2x4x100000 .f32) (b : IVec S8x1 32) : KProg F :=
  .op (.load arg2 tailRect.toLoadRect (View.loadsAt_vmem h_S2x4x1696)) fun _ =>
  .op (.store arg2 tailRect (hotTail b) Finset.univ (View.stores_vmem_bits_univ h_S2x4x1696 rfl) (.inl rfl)) fun _ =>
    .ret ⟨⟩

/-- The kernel's body, as loops. -/
def body (i : grid0.Coords) (arg1 arg2 : Memref sig .tc .vmem S2x4x100000 .f32) : KProg F :=
  scan arg1 (ctr0 i) (fun s =>
    .op (.load arg1 tailRect.toLoadRect (View.loadsAt_vmem h_S2x4x1696)) fun x =>
      emit arg2 (winner s (tailScore i x)) (emitTail arg2 (winner s (tailScore i x))) 48 0 (by omega)) 48 0 (by omega) best0

/-- The printed body is the loops. -/
theorem body_eq (i : grid0.Coords) (arg1 : Memref sig .tc .vmem S2x4x100000 .f32) (harg1 : arg1.IsWhole)
    (arg2 : Memref sig .tc .vmem S2x4x100000 .f32) (harg2 : arg2.IsWhole) :
    (cc0__sample_kernel i arg1 harg1 arg2 harg2 : KProg F) = body i arg1 arg2 := by
  sl_kernel_rfl

end Cert.KernelIdeal.Sample

end
-- ==== Proof.Sample.Triple.lean ====
/-
  The loops run: from the input block held at `X` and the output block held at anything, the body ends with the input block
  as it was and the output block at `outOf i X`, the one-hot rows of the winning columns.
-/
module

public import proofs.«01_k».proof.Proof.Sample.Body
public import Idealize.ShloMosaic.Lib.Pipeline.FrameBody
public import Idealize.ShloMosaic.Lib.ValueIdxCore

@[expose] public section

set_option maxRecDepth 16384

noncomputable section

namespace Cert.KernelIdeal.Sample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- What the scan carries after `n` chunks from number `j` on of a block holding `X`. -/
def scanned (c0 : IVec S8x2048 32) (X : Vec F S2x4x100000 .f32) : (n j : ℕ) → j + n ≤ 48 → Best F → Best F
  | 0, _, _, s => s
  | n + 1, j, h, s => scanned c0 X n (j + 1) (by omega) (step c0 j (View.ld X (chunkRect j (by omega))) s)

/-- The one-hot rows of winning columns `b`, as one block. -/
def rows (b : IVec S8x1 32) : Vec F S2x4x100000 .f32 := fun y =>
  if h : (y 2).val < 98304 then hot b ((y 2).val / 2048) (ix3 (y 0) (y 1) ⟨(y 2).val % 2048, Nat.mod_lt _ (by omega)⟩)
  else hotTail b (ix3 (y 0) (y 1) ⟨(y 2).val - 98304, by have : (y 2).val < 100000 := (y 2).isLt; omega⟩)

/-- The winning columns of the block holding `X` at grid point `i`. -/
def winners (i : grid0.Coords) (X : Vec F S2x4x100000 .f32) : IVec S8x1 32 :=
  winner (scanned (ctr0 i) X 48 0 (by omega) best0) (tailScore i (View.ld X tailRect))

/-- What the body leaves in the output block. -/
def outOf (i : grid0.Coords) (X : Vec F S2x4x100000 .f32) : Vec F S2x4x100000 .f32 := rows (winners i X)

/-! ## The stores as a list -/

/-- The stores of `n` chunks from number `j` on, after those of `L` (the last first). -/
def stores (b : IVec S8x1 32) : (n j : ℕ) → j + n ≤ 48 → List (View.Piece (Elt F) S2x4x100000 .f32) →
    List (View.Piece (Elt F) S2x4x100000 .f32)
  | 0, _, _, L => L
  | n + 1, j, h, L => stores b n (j + 1) (by omega) (⟨chunkRect j (by omega), hot b j⟩ :: L)

/-- A store of the list is one of `L`'s or one of the chunks'. -/
theorem mem_stores (b : IVec S8x1 32) (p : View.Piece (Elt F) S2x4x100000 .f32) : ∀ (n j : ℕ) (h : j + n ≤ 48) (L),
    p ∈ stores b n j h L ↔ p ∈ L ∨ ∃ k, ∃ hk : k < 48, j ≤ k ∧ k < j + n ∧ p = ⟨chunkRect k hk, hot b k⟩
  | 0, j, h, L => by
    refine ⟨Or.inl, ?_⟩
    rintro (h | ⟨k, hk, h1, h2, -⟩)
    · exact h
    · omega
  | n + 1, j, h, L => by
    unfold stores
    rw [mem_stores b p n (j + 1), List.mem_cons]
    constructor
    · rintro ((rfl | h) | ⟨k, hk, h1, h2, e⟩)
      · exact Or.inr ⟨j, by omega, le_refl _, by omega, rfl⟩
      · exact Or.inl h
      · exact Or.inr ⟨k, hk, by omega, by omega, e⟩
    · rintro (h | ⟨k, hk, h1, h2, e⟩)
      · exact Or.inl (Or.inr h)
      · by_cases hkj : k = j
        · subst hkj; exact Or.inl (Or.inl e)
        · exact Or.inr ⟨k, hk, by omega, by omega, e⟩

/-- A chunk's store agrees with the one-hot rows. -/
theorem hot_eq_rows (b : IVec S8x1 32) (k : ℕ) (hk : k < 48) (x : (chunkRect k hk).shape.Idx) :
    (hot b k : FVec F S2x4x2048 .f32) x = rows b ((chunkRect k hk).emb x) := by
  have hx : (x 2).val < 2048 := (x 2).isLt
  have e2 : (((chunkRect k hk).emb x) 2).val = 2048 * k + (x 2).val := by
    rw [Rect.emb_apply]; show 2048 * k + 1 * (x 2).val = _; omega
  have e0 : (((chunkRect k hk).emb x) 0).val = (x 0).val := by
    rw [Rect.emb_apply]; show 0 + 1 * (x 0).val = _; omega
  have e1 : (((chunkRect k hk).emb x) 1).val = (x 1).val := by
    rw [Rect.emb_apply]; show 0 + 1 * (x 1).val = _; omega
  unfold rows
  rw [dif_pos (by omega), show (((chunkRect k hk).emb x) 2).val / 2048 = k by omega]
  congr 1
  funext a
  refine Fin.ext ?_
  match a with
  | 0 => exact e0.symm
  | 1 => exact e1.symm
  | 2 => show (x 2).val = (((chunkRect k hk).emb x) 2).val % 2048; omega

/-- The last store agrees with the one-hot rows. -/
theorem hotTail_eq_rows (b : IVec S8x1 32) (x : tailRect.shape.Idx) :
    (hotTail b : FVec F S2x4x1696 .f32) x = rows b (tailRect.emb x) := by
  have hx : (x 2).val < 1696 := (x 2).isLt
  have e2 : ((tailRect.emb x) 2).val = 98304 + (x 2).val := by
    rw [Rect.emb_apply]; show 98304 + 1 * (x 2).val = _; omega
  have e0 : ((tailRect.emb x) 0).val = (x 0).val := by
    rw [Rect.emb_apply]; show 0 + 1 * (x 0).val = _; omega
  have e1 : ((tailRect.emb x) 1).val = (x 1).val := by
    rw [Rect.emb_apply]; show 0 + 1 * (x 1).val = _; omega
  unfold rows
  rw [dif_neg (by omega)]
  congr 1
  funext a
  refine Fin.ext ?_
  match a with
  | 0 => exact e0.symm
  | 1 => exact e1.symm
  | 2 => show (x 2).val = ((tailRect.emb x) 2).val - 98304; omega

/-- All the stores together leave the one-hot rows, whatever the buffer held. -/
theorem read_stores (b : IVec S8x1 32) (v : View sig .tc .vmem S2x4x100000 .f32) (f : v.ty.Contents (Elt F)) :
    v.read (Elt F) (v.writes (Elt F) f (⟨tailRect, hotTail b⟩ :: stores b 48 0 (by omega) [])) = rows b := by
  funext y
  refine View.read_writes_apply_of_pieces v f (rows b) _ ?_ y ?_
  · intro p hp x
    rcases List.mem_cons.mp hp with rfl | hp
    · exact hotTail_eq_rows b x
    · rcases (mem_stores b p _ _ _ _).mp hp with h | ⟨k, hk, -, -, rfl⟩
      · exact absurd h List.not_mem_nil
      · exact hot_eq_rows b k hk x
  · have h0 : (y 0).val < 2 := (y 0).isLt
    have h1 : (y 1).val < 4 := (y 1).isLt
    have h2 : (y 2).val < 100000 := (y 2).isLt
    by_cases hy : (y 2).val < 98304
    · have hk : (y 2).val / 2048 < 48 := by omega
      refine ⟨⟨chunkRect ((y 2).val / 2048) hk, hot b _⟩, List.mem_cons_of_mem _ ((mem_stores b _ _ _ _ _).mpr
        (Or.inr ⟨(y 2).val / 2048, hk, by omega, by omega, rfl⟩)), ?_⟩
      show y ∈ (chunkRect ((y 2).val / 2048) hk).set
      rw [Rect.mem_set_unit]
      intro a
      match a with
      | 0 => exact ⟨Nat.zero_le _, by show (y 0).val < 0 + 2; omega⟩
      | 1 => exact ⟨Nat.zero_le _, by show (y 1).val < 0 + 4; omega⟩
      | 2 => exact ⟨by show 2048 * ((y 2).val / 2048) ≤ (y 2).val; omega,
          by show (y 2).val < 2048 * ((y 2).val / 2048) + 2048; omega⟩
    · refine ⟨⟨tailRect, hotTail b⟩, List.mem_cons_self, ?_⟩
      show y ∈ tailRect.set
      rw [Rect.mem_set_unit]
      intro a
      match a with
      | 0 => exact ⟨Nat.zero_le _, by show (y 0).val < 0 + 2; omega⟩
      | 1 => exact ⟨Nat.zero_le _, by show (y 1).val < 0 + 4; omega⟩
      | 2 => exact ⟨by show 98304 ≤ (y 2).val; omega, by show (y 2).val < 98304 + 1696; omega⟩

/-! ## The loops -/

section Run

/-- Memref `M`'s elements on core `c`, held at contents `f`. -/
abbrev held (c : Dev nD) (M : Memref sig .tc .vmem S2x4x100000 .f32) (f : Buf (Elt F) (M.view.loc (c : Thread nD τ))) : sProp 𝕄 :=
  M.view.loc (c : Thread nD τ) ↦[M.view.set]{fullShare} f

/-- The weakest precondition of a program of the kernel on core `c`. -/
abbrev runs (c : Dev nD) (Q : PUnit.{1} → sProp 𝕄) (p : KProg F) : sProp 𝕄 := wp frame (wpE (defs₀ (F := F)) Variants.none (c : Thread nD τ) none) Set.univ p Q

variable (c : Dev nD) (arg1 arg2 : Memref sig .tc .vmem S2x4x100000 .f32)

/-- A load: the program goes on with what the rectangle reads. -/
theorem runs_load (Q : PUnit.{1} → sProp 𝕄) (M : Memref sig .tc .vmem S2x4x100000 .f32) (r : Rect S2x4x100000) {hl : M.view.LoadsAt r.toLoadRect}
    (k : (r.shape.Idx → Elt F .f32) → KProg F) (f : Buf (Elt F) (M.view.loc (c : Thread nD τ))) :
    held (F := F) c M f ⊢ iprop((held (F := F) c M f -∗ runs (F := F) c Q (k (View.ld (M.view.read (Elt F) f) r)))
      -∗ runs (F := F) c Q (.op (.load M r.toLoadRect hl) k)) :=
  wp_load Variants.none (c : Thread nD τ) none Set.univ (M.view.setOn_subset_set _)

/-- A store: one more piece on the list. -/
theorem runs_store (Q : PUnit.{1} → sProp 𝕄) (M : Memref sig .tc .vmem S2x4x100000 .f32) (r : Rect S2x4x100000) (w : r.shape.Idx → Elt F .f32)
    {hx : (M.access r).Stores Finset.univ} {hm : Finset.univ = Finset.univ ∨ ∀ a, r.stride a = 1}
    (k : PUnit.{1} → KProg F) (f : Buf (Elt F) (M.view.loc (c : Thread nD τ))) (L : List (View.Piece (Elt F) S2x4x100000 .f32)) :
    held (F := F) c M (M.view.writes (Elt F) f L)
      ⊢ iprop((held (F := F) c M (M.view.writes (Elt F) f (⟨r, w⟩ :: L)) -∗ runs (F := F) c Q (k ⟨⟩))
      -∗ runs (F := F) c Q (.op (.store M r w Finset.univ hx hm) k)) :=
  wp_store_writes Variants.none (c : Thread nD τ) none Set.univ (M.view.set_slice_subset _)

/-- The scan, by its length. -/
theorem runs_scan (Q : PUnit.{1} → sProp 𝕄) (c0 : IVec S8x2048 32) (k : Best F → KProg F) (f : Buf (Elt F) (arg1.view.loc (c : Thread nD τ))) :
    ∀ (n j : ℕ) (h : j + n ≤ 48) (s : Best F),
      held (F := F) c arg1 f ⊢ iprop((held (F := F) c arg1 f -∗ runs (F := F) c Q (k (scanned (F := F) c0 (arg1.view.read (Elt F) f) n j h s))) -∗ runs (F := F) c Q (scan arg1 c0 k n j h s))
  | 0, j, h, s => by
    iintro H Hk
    iapply Hk
    iexact H
  | n + 1, j, h, s => by
    have hj : j < 48 := by omega
    have hn : j + 1 + n ≤ 48 := by omega
    unfold scan scanned
    iintro H Hk
    iapply (runs_load c Q arg1 (chunkRect j hj) _ _) $$ H
    iintro H
    iapply (runs_scan Q c0 k f n (j + 1) hn _) $$ H
    iexact Hk

/-- The stores of the full chunks, by their number. -/
theorem runs_emit (Q : PUnit.{1} → sProp 𝕄) (b : IVec S8x1 32) (k : KProg F) (f : Buf (Elt F) (arg2.view.loc (c : Thread nD τ))) :
    ∀ (n j : ℕ) (h : j + n ≤ 48) (L),
      held (F := F) c arg2 (arg2.view.writes (Elt F) f L)
        ⊢ iprop((held (F := F) c arg2 (arg2.view.writes (Elt F) f (stores (F := F) b n j h L)) -∗ runs (F := F) c Q k) -∗ runs (F := F) c Q (emit arg2 b k n j h))
  | 0, j, h, L => by
    iintro H Hk
    iapply Hk
    iexact H
  | n + 1, j, h, L => by
    have hj : j < 48 := by omega
    have hn : j + 1 + n ≤ 48 := by omega
    unfold emit stores
    iintro H Hk
    iapply (runs_load c Q arg2 (chunkRect j hj) _ _) $$ H
    iintro H
    iapply (runs_store c Q arg2 (chunkRect j hj) (hot b j) _ f L) $$ H
    iintro H
    iapply (runs_emit Q b k f n (j + 1) hn _) $$ H
    iexact Hk

/-- All the full chunks' stores, from a buffer with no store on the list. -/
theorem runs_emit_all (Q : PUnit.{1} → sProp 𝕄) (b : IVec S8x1 32) (k : KProg F) (f : Buf (Elt F) (arg2.view.loc (c : Thread nD τ))) :
    held (F := F) c arg2 f
      ⊢ iprop((held (F := F) c arg2 (arg2.view.writes (Elt F) f (stores (F := F) b 48 0 (le_refl 48) [])) -∗ runs (F := F) c Q k)
        -∗ runs (F := F) c Q (emit arg2 b k 48 0 (le_refl 48))) := by
  have h := runs_emit c arg2 Q b k f 48 0 (le_refl 48) []
  rwa [View.writes_nil] at h

/-- The last store. -/
theorem runs_emitTail (Q : PUnit.{1} → sProp 𝕄) (b : IVec S8x1 32) (f : Buf (Elt F) (arg2.view.loc (c : Thread nD τ))) (L) :
    held (F := F) c arg2 (arg2.view.writes (Elt F) f L)
      ⊢ iprop((held (F := F) c arg2 (arg2.view.writes (Elt F) f (⟨tailRect, hotTail (F := F) b⟩ :: L)) -∗ Q ⟨⟩) -∗ runs (F := F) c Q (emitTail (F := F) arg2 b)) := by
  unfold emitTail
  iintro H Hk
  iapply (runs_load c Q arg2 (tailRect) _ _) $$ H
  iintro H
  iapply (runs_store c Q arg2 (tailRect) (hotTail b) _ f L) $$ H
  iintro H
  unfold runs
  sl_step
  iapply Hk
  iexact H

/-- The whole body: the input block as it was, the output block at `outOf`. -/
theorem runs_body (Q : PUnit.{1} → sProp 𝕄) (i : grid0.Coords) (X : Vec F S2x4x100000 .f32) (Y : Vec F S2x4x100000 .f32) :
    iprop(owns (c : Thread nD τ) arg1 fullShare X ∗ owns (c : Thread nD τ) arg2 fullShare Y)
      ⊢ iprop(((owns (c : Thread nD τ) arg1 fullShare X ∗ owns (c : Thread nD τ) arg2 fullShare (outOf i X)) -∗ Q ⟨⟩)
        -∗ runs (F := F) c Q (body i arg1 arg2)) := by
  unfold body owns
  iintro ⟨⟨%f, %hf, H1⟩, ⟨%g, -, H2⟩⟩ Hk
  subst hf
  iapply (runs_scan c arg1 Q (ctr0 i) _ f 48 0 (le_refl 48) best0) $$ H1
  iintro H1
  iapply (runs_load c Q arg1 (tailRect) _ _) $$ H1
  iintro H1
  iapply (runs_emit_all c arg2 Q _ _ g) $$ H2
  iintro H2
  iapply (runs_emitTail c arg2 Q _ g _) $$ H2
  iintro H2
  iapply Hk
  isplitl [H1]
  · iexists f
    isplitr
    · ipureintro; rfl
    · iexact H1
  · iexists _
    isplitr
    swap; · iexact H2
    ipureintro
    exact read_stores _ _ _

end Run

end Cert.KernelIdeal.Sample

end
-- ==== Proof.Sample.Run.lean ====
/-
  The kernel's launch: at each grid point the body finds the input block and leaves the one-hot rows of its winners; the run
  ends, with the arrays at what the blocks give, the argument as it was and every semaphore counter at zero.
-/
module

public import proofs.«01_k».proof.Proof.Sample.Triple
public import proofs.«01_k».proof.Proof.Gen.KernelIdeal.Launch
public import proofs.«01_k».proof.Proof.Gen.KernelIdeal.Points
public import proofs.«01_k».proof.Proof.Gen.KernelIdeal.Frame
public import Idealize.ShloMosaic.Lib.Claim

@[expose] public section

set_option maxRecDepth 16384

noncomputable section

namespace Cert.KernelIdeal.Sample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's data on core `c`: the input's buffer keeps its block, the output's ends each point at `outOf` of it. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outOf (grid0.coords t) (iblk m c 0 t)
  Φ _ := Pipeline.ΦA spec0 c
  q _ := fullShare
  owed _ := 0

/-- The arrays start as the region finds them. -/
theorem data_A (c : Dev nD) (w : Fin cfg0.W) : (data m 0 c).A w = V m c (Pipeline.arrRef spec0 w) := by
  dsimp only [data]

/-- The input's buffer ends a point at its block. -/
theorem after_in (c : Dev nD) (t : Fin cfg0.N) : (data m 0 c).after 0 t = iblk m c 0 t := by dsimp only [data]

/-- The output's buffer ends a point at the one-hot rows. -/
theorem after_out (c : Dev nD) (t : Fin cfg0.N) : (data m 0 c).after 1 t = outOf (grid0.coords t) (iblk m c 0 t) := by
  dsimp only [data]

/-- The input's buffer starts a point at its block. -/
theorem before_in (c : Dev nD) (t : Fin cfg0.N) (d) : (data m 0 c).before 0 t d = iblk m c 0 t :=
  before0_0_of m (data m 0 c) (data_A m c 0) (after_in m c) t d

/-- What a point starts with. -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- What a point ends with. -/
def post (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

/-- The body takes a point's start to its end. -/
theorem point_sound (c : Dev nD) (t : Fin cfg0.N) :
    pre m c t ⊢ wp frame (wpE (defs₀ (F := F)) Variants.none c none) Set.univ (bodyAt0 t) (fun _ => post m c t) := by
  unfold pre post bodyAt0
  rw [body_eq]
  simp only [before_in]
  rw [show (data m 0 c).Φ t.succ = (data m 0 c).Φ t.castSucc from rfl,
    show (data m 0 c).owesAt () t.succ = (data m 0 c).owesAt () t.castSucc from rfl,
    after_in, after_out]
  iintro ⟨HΦ, Ho, ⟨%d0, H0⟩, ⟨%d1, H1⟩⟩
  iapply (runs_body c (st0_0 t) (st0_1 t) _ (grid0.coords t) (iblk m c 0 t) _) $$ [H0 H1]
  · isplitl [H0]; · iexact H0
    iexact H1
  iintro ⟨H0, H1⟩
  isplitl [HΦ]; · iexact HΦ
  isplitl [Ho]; · iexact Ho
  isplitl [H0]; · iexact H0
  iexact H1

/-- The body table's row at a point is the body. -/
theorem row_eq (t : Fin cfg0.N) :
    defs₀ (F := F) .tc cfg0.body (cfg0.bodyArgs t (cfg0.slots t)) = bodyAt0 t := by
  unfold defs₀; rw [Defs.onTc_tc]

/-- The pipeline's obligation of the body, at every point. -/
theorem obligation (c : Dev nD) : BodyObligation (data (F := F) m 0 c) (defs₀ (F := F)) Variants.none () Set.univ := fun t => by
  rw [bigSep_W0, bigSep_W0, row_eq]
  exact triple_restated (point_sound m c t) rfl .rfl fun _ => .rfl

set_option backward.isDefEq.respectTransparency.types false in
/-- Every execution ends, with the arrays at what the data give and every counter at zero. -/
theorem run_zero : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- Every execution ends, with the arrays at what the data give. -/
theorem run_arrays : θ_run defs (onTc (τ := τ) (main (F := F))) (s₀ m ρ) (Pipeline.FramePost cfgs (data m) 0 (V m)) :=
  (θ_run defs _ _).mono (fun _ h => h.1) (run_zero m ρ)

/-- Every execution ends, with the argument as it was and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (data m) (data_A m) (run_arrays m ρ)) ((θ_run defs _ _).mono (fun _ h => h.2) (run_zero m ρ))

end Cert.KernelIdeal.Sample

end
-- ==== Proof.Sample.Printed.lean ====
/-
  The kernel as printed and the kernel read at exact numbers are one text, so one run serves both.
-/
module

public import proofs.«01_k».proof.Proof.Sample.Run
public import proofs.«01_k».proof.Proof.Gen.Kernel
public import proofs.«01_k».proof.Defs

@[expose] public section

set_option maxRecDepth 16384

noncomputable section

namespace Cert.KernelIdeal.Sample

open Idealize.ShloMosaic Idealize.SL.Sem

/-- The ideal reading's frame, at the printed program's numbers. -/
def Quiet : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

/-- It is the printed program's frame. -/
theorem quiet_eq : @Cert.quiescent_Kernel Cert.Kernel.Gen.facts = Quiet := by sl_kernel_rfl

/-- The printed kernel's executions end, with the argument as it was and every counter at zero. -/
theorem quiet_printed : @Cert.quiescent_Kernel Cert.Kernel.Gen.facts :=
  quiet_eq ▸ fun m g _ => Cert.KernelIdeal.Sample.quiet (F := Bits) m g

end Cert.KernelIdeal.Sample

end
-- ==== Proof.Reference.Ops.lean ====
/-
  The reference is a straight line of host operations: its list, read off the program part by part.
-/
module

public import proofs.«01_k».proof.ReferenceIdeal
public import proofs.«01_k».proof.Proof.Gen.ReferenceIdeal
public import Idealize.ShloMosaic.Lib.StableHlo.RunHlo

@[expose] public section

set_option maxRecDepth 16384

noncomputable section

namespace Cert.ReferenceIdeal.Line

open Cert.ReferenceIdeal
open Idealize.ShloMosaic Idealize.SL.Sem
open Idealize.ShloMosaic.StableHlo

variable {F : FTy → Type} [FloatOps F]

/-- The list of a program that is a straight line. -/
abbrev LineOf (p : Prog (TpuEff nD τ sig (Elt F) (Pipeline.Sig Λ₀ (Fin 0) fun p => (pcfgs (F := F) p).Adm) .tc) PUnit) : Type :=
  { ops : List (HloOp τ sig (Elt F)) // IsSeq p ops }

/-- One line after another is the two lists in a row. -/
theorem isSeq_append {p k : Prog (TpuEff nD τ sig (Elt F) (Pipeline.Sig Λ₀ (Fin 0) fun p => (pcfgs (F := F) p).Adm) .tc) PUnit}
    {a b : List (HloOp τ sig (Elt F))} (ha : IsSeq p a) (hb : IsSeq k b) : IsSeq (p >>= fun _ => k) (a ++ b) := by
  unfold IsSeq at *
  rw [ha, hb, StableHlo.seq_append]

/-- The generator's first sixty operations. -/
def bits0 : LineOf (F := F) (fn_threefry2x32.body_part0 (.of main_v9) (.of main_v11) (.of main_v22) (.of main_v21) main_call0) := by
  apply Subtype.mk
  unfold fn_threefry2x32.body_part0
  hlo_seq

/-- The next sixty. -/
def bits1 : LineOf (F := F) (fn_threefry2x32.body_part1 (.of main_v9) (.of main_v11) (.of main_v22) (.of main_v21) main_call0) := by
  apply Subtype.mk
  unfold fn_threefry2x32.body_part1
  hlo_seq

/-- The next sixty. -/
def bits2 : LineOf (F := F) (fn_threefry2x32.body_part2 (.of main_v9) (.of main_v11) (.of main_v22) (.of main_v21) main_call0) := by
  apply Subtype.mk
  unfold fn_threefry2x32.body_part2
  hlo_seq

/-- The last of the generator. -/
def bits3 : LineOf (F := F) (fn_threefry2x32.body_part3 (.of main_v9) (.of main_v11) (.of main_v22) (.of main_v21) main_call0) := by
  apply Subtype.mk
  unfold fn_threefry2x32.body_part3
  hlo_seq

/-- The generator whole. -/
def bits : LineOf (F := F) (fn_threefry2x32.body (.of main_v9) (.of main_v11) (.of main_v22) (.of main_v21) main_call0) :=
  ⟨bits0.1 ++ (bits1.1 ++ (bits2.1 ++ bits3.1)), isSeq_append bits0.2 (isSeq_append bits1.2 (isSeq_append bits2.2 bits3.2))⟩

/-- The index of the largest. -/
def argmax : LineOf (F := F) (fn_argmax.body (.of main_v43) main_call1) := by
  apply Subtype.mk
  unfold fn_argmax.body
  hlo_seq

/-- The one-hot rows. -/
def oneHot : LineOf (F := F) (fn_one_hot.body (.of main_v44) main_call2) := by
  apply Subtype.mk
  unfold fn_one_hot.body
  hlo_seq

/-- The whole reference. -/
def line (d : Dev nD) : LineOf (F := F) (main (F := F) d) := by
  apply Subtype.mk
  unfold main
  iterate 29 apply IsSeq.cons
  apply isSeq_append bits.2
  iterate 26 apply IsSeq.cons
  apply isSeq_append argmax.2
  apply isSeq_append oneHot.2
  apply IsSeq.cons
  exact IsSeq.nil

end Cert.ReferenceIdeal.Line

end
-- ==== Proof.Reference.Run.lean ====
/-
  The reference runs: its argument ends as it was, the counters at zero, every buffer at the fold of the operations.
-/
module

public import proofs.«01_k».proof.Proof.Reference.Ops
public import Idealize.ShloMosaic.Lib.Claim
public import Idealize.ShloMosaic.Lib.Quiescent

@[expose] public section

set_option maxRecDepth 16384

noncomputable section

namespace Cert.ReferenceIdeal.Line

open Cert.ReferenceIdeal
open Idealize.ShloMosaic Idealize.ShloMosaic.TcCoe Idealize.SL.Sem
open Idealize.ShloMosaic.StableHlo

variable {F : FTy → Type} [FloatOps F]

/-- The operations of the reference, in order. -/
abbrev ops : List (HloOp τ sig (Elt F)) := (line (F := F) 0).1

/-- The program is their line, on each device. -/
theorem isLine (d : Dev nD) : IsSeq (main (F := F) d) (ops (F := F)) := (line (F := F) 0).2

/-- No operation allocates. -/
theorem ops_fresh : (ops (F := F)).Forall fun op => op.fresh = ∅ := forall_fresh_of_map rfl

/-- The operations touch the core's buffers only. -/
theorem ops_sub : (ops (F := F)).Forall fun op => op.bufs ⊆ tcRefs τ sig := by
  simp only [ops, line, bits, bits0, bits1, bits2, bits3, argmax, oneHot, List.forall_append, List.forall_cons, List.Forall,
    nullary_bufs_sub, unary_bufs_sub, binary_bufs_sub, quaternary_bufs_sub, reshape_bufs_sub, and_self]

/-- Where the reference ends: every buffer at the fold of the operations over the launch's contents. -/
theorem run (m : (ℓ : Loc nD τ sig) → Buf (Elt F) ℓ) (ρ : Dev nD → PrngReg) :
    θ_run defs (onTc (main (F := F))) ⟨m, fun _ => 0, ρ⟩ (fun r => ∀ d b,
      r.2.mem ((d.tc : Thread nD τ).loc b) = after ops (launchContents m d) (Proc.devRef .tc b)) :=
  run_hlo defs main isLine (by decide) (by decide) ops_sub (List.forall_iff_forall_mem.mp ops_fresh) m ρ

/-- The contents after one line and then another. -/
theorem after_two (a b : List (HloOp τ sig (Elt F))) (V : Valuation τ sig (Elt F)) : after (a ++ b) V = after b (after a V) := by
  induction a generalizing V with
  | nil => rfl
  | cons op a ih => exact ih (op.result V)

/-- No operation writes the argument. -/
theorem ops_arg (V : Valuation τ sig (Elt F)) :
    after (ops (F := F)) V (Proc.devRef .tc (main_arg0 : Ref sig .tc)) = V (Proc.devRef .tc (main_arg0 : Ref sig .tc)) := by
  simp only [ops, line, bits, bits0, bits1, bits2, bits3, argmax, oneHot, after_cons, after_two]
  after_results_simp

/-- The frame of the reference. -/
theorem quiet (m : (ℓ : Loc nD τ sig) → Buf (Elt F) ℓ) (ρ : Dev nD → PrngReg) :
    θ_run defs (onTc (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono (run m ρ) fun r h => ⟨fun c => (h c _).trans ((ops_arg _).trans rfl), sem_eq_zero_of_no_sems rfl r.2⟩

end Cert.ReferenceIdeal.Line

end
-- ==== Proof.Value.Best.lean ====
/-
  The first index of the largest value: what a scan in order, a fold in any order and a row of lanes each find.
-/
module

public import Idealize.ShloMosaic.PureOps
public import Idealize.ShloMosaic.PureOps.Reduce
public import Mathlib.Data.EReal.Basic

@[expose] public section

noncomputable section

namespace Cert.Sampling

open Idealize.ShloMosaic

/-- Of the indices in `P`, `v` is the largest value of `f` and `k` the first index that has it; of none, minus infinity and 0. -/
structure Best (P : ℕ → Prop) (f : ℕ → EReal) (v : EReal) (k : ℕ) : Prop where
  le : ∀ a, P a → f a ≤ v
  first : ∀ a, P a → f a = v → k ≤ a
  meets : (P k ∧ f k = v) ∨ (v = ⊥ ∧ k = 0)

variable {P Q : ℕ → Prop} {f : ℕ → EReal} {v w : EReal} {k l : ℕ}

/-- Of no index. -/
theorem Best.none : Best (fun _ => False) f ⊥ 0 := ⟨fun _ h => h.elim, fun _ h => h.elim, .inr ⟨rfl, rfl⟩⟩

/-- The same indices under another name. -/
theorem Best.congr (h : Best P f v k) (e : ∀ a, Q a ↔ P a) : Best Q f v k :=
  ⟨fun a ha => h.le a ((e a).mp ha), fun a ha => h.first a ((e a).mp ha), h.meets.imp (fun m => ⟨(e k).mpr m.1, m.2⟩) id⟩

/-- The same values under another name. -/
theorem Best.congr_val {g : ℕ → EReal} (h : Best P f v k) (e : ∀ a, P a → g a = f a) : Best P g v k :=
  ⟨fun a ha => (e a ha).trans_le (h.le a ha), fun a ha ea => h.first a ha ((e a ha).symm.trans ea),
    h.meets.imp (fun m => ⟨m.1, (e k m.1).trans m.2⟩) id⟩

/-- One more index whose value is greater. -/
theorem Best.take (h : Best P f v k) (a : ℕ) (hlt : v < f a) : Best (fun b => P b ∨ b = a) f (f a) a where
  le b hb := hb.elim (fun hp => (h.le b hp).trans hlt.le) fun e => e ▸ le_rfl
  first b hb e := hb.elim (fun hp => absurd e ((h.le b hp).trans_lt hlt).ne) fun e => e ▸ le_rfl
  meets := .inl ⟨.inr rfl, rfl⟩

/-- One more index whose value is less, or equal at an index that is not earlier. -/
theorem Best.keep (h : Best P f v k) (a : ℕ) (hle : f a ≤ v) (hk : f a = v → k ≤ a) : Best (fun b => P b ∨ b = a) f v k where
  le b hb := hb.elim (h.le b) fun e => e ▸ hle
  first b hb := hb.elim (h.first b) fun e => e ▸ hk
  meets := h.meets.imp (fun m => ⟨.inl m.1, m.2⟩) id

/-- One more index whose value is equal, at an index that is not later. -/
theorem Best.turn (h : Best P f v k) (a : ℕ) (he : f a = v) (hk : a ≤ k) : Best (fun b => P b ∨ b = a) f v a where
  le b hb := hb.elim (h.le b) fun e => e ▸ he.le
  first b hb e := hb.elim (fun hp => hk.trans (h.first b hp e)) fun e => e ▸ le_rfl
  meets := .inl ⟨.inr rfl, he⟩

/-- Of the indices below `n`, not none, the first largest is met. -/
theorem Best.met {n : ℕ} (hn : 0 < n) (h : Best (· < n) f v k) : k < n ∧ f k = v :=
  h.meets.elim id fun m => ⟨m.2 ▸ hn, le_antisymm (h.le k (m.2 ▸ hn)) (m.1 ▸ bot_le)⟩

/-- There is one first largest. -/
theorem Best.unique {n : ℕ} (hn : 0 < n) (h : Best (· < n) f v k) (h' : Best (· < n) f w l) : k = l := by
  obtain ⟨a, ea⟩ := h.met hn
  obtain ⟨b, eb⟩ := h'.met hn
  have e : v = w := le_antisymm (ea ▸ h'.le k a) (eb ▸ h.le l b)
  exact le_antisymm (h.first l b (eb.trans e.symm)) (h'.first k a (ea.trans e))

/-- Two runs of indices, one below the other. -/
theorem Best.join {m n : ℕ} (hm : 0 < m) (h : Best (· < m) f v k) (h' : Best (fun a => m ≤ a ∧ a < n) f w l) :
    Best (fun a => a < m ∨ (m ≤ a ∧ a < n)) f (if v < w then w else v) (if v < w then l else k) := by
  obtain ⟨hk, ek⟩ := h.met hm
  split
  · next hlt =>
    exact ⟨fun a ha => ha.elim (fun b => (h.le a b).trans hlt.le) (h'.le a),
      fun a ha e => ha.elim (fun b => absurd e ((h.le a b).trans_lt hlt).ne) fun b => h'.first a b e,
      h'.meets.elim (fun m => .inl ⟨.inr m.1, m.2⟩) fun m => absurd hlt (m.1 ▸ not_lt_bot)⟩
  · next hge =>
    exact ⟨fun a ha => ha.elim (h.le a) fun b => (h'.le a b).trans (not_lt.mp hge),
      fun a ha e => ha.elim (fun b => h.first a b e) fun b => hk.le.trans b.1, .inl ⟨.inl hk, ek⟩⟩

/-- A fold of the signed minimum is at most each word it meets, and is the first word or one it meets. -/
theorem fold_minsi {ι : Type} [DecidableEq ι] (S : Finset ι) (b : BitVec 32) (g : ι → BitVec 32) :
    (∀ i ∈ S, (S.fold IKind.minsi.op b g).toInt ≤ (g i).toInt) ∧ (S.fold IKind.minsi.op b g = b ∨ ∃ i ∈ S, S.fold IKind.minsi.op b g = g i) := by
  induction S using Finset.induction_on with
  | empty => simp
  | insert a S ha ih =>
    rw [Finset.fold_insert ha]
    have e : ∀ x y : BitVec 32, (IKind.minsi.op x y).toInt = min x.toInt y.toInt ∧ (IKind.minsi.op x y = x ∨ IKind.minsi.op x y = y) := by
      intro x y
      simp only [IKind.op, IntOp.minsi, BitVec.slt, decide_eq_true_eq]
      split_ifs <;> first | exact ⟨by omega, .inl rfl⟩ | exact ⟨by omega, .inr rfl⟩
    obtain ⟨e1, e2⟩ := e (g a) (S.fold IKind.minsi.op b g)
    refine ⟨fun i hi => ?_, ?_⟩
    · rw [e1]
      rcases Finset.mem_insert.mp hi with rfl | hi
      · exact min_le_left _ _
      · exact (min_le_right _ _).trans (ih.1 i hi)
    · rcases e2 with h | h
      · exact .inr ⟨a, Finset.mem_insert_self _ _, h⟩
      · rw [h]
        exact ih.2.imp id fun ⟨i, hi, e⟩ => ⟨i, Finset.mem_insert_of_mem hi, e⟩

/-- A row of lanes: lane `x` has the first largest `m x` of the indices `P x`, at `j x`; the row's maximum and the least
    index of a lane that attains it are the first largest of all the lanes' indices. -/
theorem best_row {n : ℕ} (hn : 0 < n) (c : ℕ) (hc : c < 2 ^ 31) (P : Fin n → ℕ → Prop) (f : ℕ → EReal) (m : Fin n → EReal)
    (j : Fin n → ℕ) (hj : ∀ x, j x < c) (hP : ∀ x, m x = f (j x) ∧ P x (j x))
    (hle : ∀ x a, P x a → f a ≤ m x) (hfirst : ∀ x a, P x a → f a = m x → j x ≤ a) :
    ∃ k, (Finset.univ.fold IKind.minsi.op 2147483647#32 fun x : Fin n =>
        if m x = Finset.univ.fold max ⊥ m then BitVec.ofNat 32 (j x) else BitVec.ofNat 32 c) = BitVec.ofNat 32 k ∧
      Best (fun a => ∃ x, P x a) f (Finset.univ.fold max ⊥ m) k := by
  have hsup : Finset.univ.fold max ⊥ m = Finset.univ.sup m := rfl
  rw [hsup]
  obtain ⟨x₀, -, h₀⟩ := Finset.exists_mem_eq_sup Finset.univ ⟨⟨0, hn⟩, Finset.mem_univ _⟩ m
  generalize hv : Finset.univ.sup m = v at h₀ ⊢
  have hmv : ∀ x, m x ≤ v := fun x => hv ▸ Finset.le_sup (Finset.mem_univ x)
  have toi : ∀ a, a < 2 ^ 31 → (BitVec.ofNat 32 a).toInt = a := by
    intro a ha
    rw [BitVec.toInt_eq_toNat_cond, BitVec.toNat_ofNat]
    omega
  obtain ⟨s1, s2⟩ := fold_minsi Finset.univ 2147483647#32 fun x : Fin n => if m x = v then BitVec.ofNat 32 (j x) else BitVec.ofNat 32 c
  generalize (Finset.univ.fold IKind.minsi.op 2147483647#32 fun x : Fin n => if m x = v then BitVec.ofNat 32 (j x) else BitVec.ofNat 32 c) = r at s1 s2 ⊢
  have b0 := s1 x₀ (Finset.mem_univ _)
  simp only [h₀, ↓reduceIte] at b0
  rw [toi _ ((hj x₀).trans hc)] at b0
  have hj0 := hj x₀
  rcases s2 with rfl | ⟨x, -, e⟩
  · have : (2147483647#32).toInt = 2147483647 := by decide
    omega
  · by_cases hx : m x = v
    · simp only [hx, ↓reduceIte] at e
      refine ⟨j x, e, ⟨fun a ⟨y, ha⟩ => (hle y a ha).trans (hmv y), fun a ⟨y, ha⟩ ea => ?_, .inl ⟨⟨x, (hP x).2⟩, ?_⟩⟩⟩
      · have my : m y = v := le_antisymm (hmv y) (ea ▸ hle y a ha)
        have by_ := s1 y (Finset.mem_univ _)
        simp only [my, ↓reduceIte] at by_
        rw [e, toi _ ((hj x).trans hc), toi _ ((hj y).trans hc)] at by_
        exact (by omega : j x ≤ j y).trans (hfirst y a ha (ea.trans my.symm))
      · rw [← (hP x).1, hx]
    · simp only [hx, ↓reduceIte] at e
      rw [e, toi _ hc] at b0
      omega

end Cert.Sampling

end
-- ==== Proof.Reference.Words.lean ====
/-
  The reference's random words, read off its generator's operations four rounds at a time.
-/
module

public import proofs.«01_k».proof.Proof.Reference.Run

@[expose] public section

set_option maxRecDepth 16384

noncomputable section

namespace Cert.ReferenceIdeal.Line

open Cert.ReferenceIdeal Cert.ReferenceIdeal.Facts₀
open Idealize.ShloMosaic Idealize.SL.Sem
open Idealize.ShloMosaic.StableHlo

variable {F : FTy → Type} [FloatOps F]

/-- A word of the key at every index. -/
abbrev every (k : IVec S_ 32) : IVec S512x100000 32 := broadcastInDim S512x100000 ![] bcast_S_S512x100000 k

/-- One mixing: `y` rotated left by `a` (right by `b`), exclusive-or `x`. -/
def turn (a b : BitVec 32) (y x : IVec S512x100000 32) : IVec S512x100000 32 :=
  xori x (ori (Host.shli y (every (constantI S_ 32 a))) (Host.shrui y (every (constantI S_ 32 b))))

/-- A round's two words, from the two before it. -/
def round (a b : BitVec 32) (s : IVec S512x100000 32 × IVec S512x100000 32) : IVec S512x100000 32 × IVec S512x100000 32 :=
  (addi s.1 s.2, turn a b s.2 (addi s.1 s.2))

/-- The key added between groups of rounds: `a` to the first word, `b` and the count `c` to the second. -/
def inject (a b : IVec S_ 32) (c : BitVec 32) (s : IVec S512x100000 32 × IVec S512x100000 32) :
    IVec S512x100000 32 × IVec S512x100000 32 :=
  (addi s.1 (every a), addi (addi s.2 (every b)) (every (constantI S_ 32 c)))

/-- A word of all the elements. -/
abbrev Words : Type := IVec S512x100000 32

/-- The second half of a round: the words' sum `x` is met, the second word `y` mixes with it. -/
def half (a b : BitVec 32) (y x : Words) : Words × Words := (x, turn a b y x)

/-- The key's third word. -/
def third (k0 k1 : IVec S_ 32) : IVec S_ 32 := xori (xori k0 k1) (constantI S_ 32 466688986#32)

/-- From the start through the fifth round. -/
def upto5 (k0 k1 : IVec S_ 32) (s : Words × Words) : Words × Words :=
  round 17#32 15#32 (inject k1 (third k0 k1) 1#32
    (round 6#32 26#32 (round 26#32 6#32 (round 15#32 17#32 (round 13#32 19#32 s)))))

/-- From the seventh round through the eleventh. -/
def upto11 (k0 k2 : IVec S_ 32) (s : Words × Words) : Words × Words :=
  round 26#32 6#32 (round 15#32 17#32 (round 13#32 19#32 (inject k2 k0 2#32 (round 24#32 8#32 (round 16#32 16#32 s)))))

/-- After the twelfth round through the sixteenth and the key after it. -/
def upto16 (k0 k1 k2 : IVec S_ 32) (s : Words × Words) : Words × Words :=
  inject k1 k2 4#32 (round 24#32 8#32 (round 16#32 16#32 (round 29#32 3#32 (round 17#32 15#32 (inject k0 k1 3#32 s)))))

/-- After the seventeenth round through the last. -/
def upto20 (k0 k2 : IVec S_ 32) (s : Words × Words) : Words × Words :=
  inject k2 k0 5#32 (round 6#32 26#32 (round 26#32 6#32 (round 15#32 17#32 s)))

variable (V : Valuation τ sig (Elt F))

/-- The two words before the first round. -/
def start : Words × Words :=
  (addi (V (Proc.devRef .tc main_v22) : Words) (every (V (Proc.devRef .tc main_v9))),
    addi (V (Proc.devRef .tc main_v21) : Words) (every (V (Proc.devRef .tc main_v11))))

/-- After the first part, the second word. -/
theorem bits0_y : after (bits0 (F := F)).1 V (Proc.devRef .tc main_call0_v46) =
    (upto5 (V (Proc.devRef .tc main_v9)) (V (Proc.devRef .tc main_v11)) (start V)).2 := by
  simp only [bits0]
  after_results_simp
  simp only [TRef.ofBuf_toBuf]
  rfl

/-- After the first part, the words' sum. -/
theorem bits0_x : after (bits0 (F := F)).1 V (Proc.devRef .tc main_call0_v47) =
    addi (upto5 (V (Proc.devRef .tc main_v9)) (V (Proc.devRef .tc main_v11)) (start V)).1
      (upto5 (V (Proc.devRef .tc main_v9)) (V (Proc.devRef .tc main_v11)) (start V)).2 := by
  simp only [bits0]
  after_results_simp
  simp only [TRef.ofBuf_toBuf]
  rfl

/-- After the first part, the key's third word. -/
theorem bits0_k : after (bits0 (F := F)).1 V (Proc.devRef .tc main_call0_v1) =
    third (V (Proc.devRef .tc main_v9)) (V (Proc.devRef .tc main_v11)) := by
  simp only [bits0]
  after_results_simp
  simp only [TRef.ofBuf_toBuf]
  rfl

/-- What the second part computes. -/
def mid1 : Words × Words := upto11 (V (Proc.devRef .tc main_v9)) (V (Proc.devRef .tc main_call0_v1))
  (half 29#32 3#32 (V (Proc.devRef .tc main_call0_v46)) (V (Proc.devRef .tc main_call0_v47)))

/-- After the second part, the second word. -/
theorem bits1_y : after (bits1 (F := F)).1 V (Proc.devRef .tc main_call0_v94) = (mid1 V).2 := by
  simp only [bits1]
  after_results_simp
  simp only [TRef.ofBuf_toBuf]
  rfl

/-- After the second part, the first word. -/
theorem bits1_x : after (bits1 (F := F)).1 V (Proc.devRef .tc main_call0_v88) = (mid1 V).1 := by
  simp only [bits1]
  after_results_simp
  simp only [TRef.ofBuf_toBuf]
  rfl

/-- What the third part computes. -/
def mid2 : Words × Words := upto16 (V (Proc.devRef .tc main_v9)) (V (Proc.devRef .tc main_v11)) (V (Proc.devRef .tc main_call0_v1))
  (round 6#32 26#32 (V (Proc.devRef .tc main_call0_v88), V (Proc.devRef .tc main_call0_v94)))

/-- After the third part, the second word. -/
theorem bits2_y : after (bits2 (F := F)).1 V (Proc.devRef .tc main_call0_v141) = (mid2 V).2 := by
  simp only [bits2]
  after_results_simp
  simp only [TRef.ofBuf_toBuf]
  rfl

/-- After the third part, the words' sum. -/
theorem bits2_x : after (bits2 (F := F)).1 V (Proc.devRef .tc main_call0_v142) = addi (mid2 V).1 (mid2 V).2 := by
  simp only [bits2]
  after_results_simp
  simp only [TRef.ofBuf_toBuf]
  rfl

/-- What the last part computes. -/
def mid3 : Words × Words := upto20 (V (Proc.devRef .tc main_v9)) (V (Proc.devRef .tc main_call0_v1))
  (half 13#32 19#32 (V (Proc.devRef .tc main_call0_v141)) (V (Proc.devRef .tc main_call0_v142)))

/-- The generator's first word. -/
theorem bits3_x : after (bits3 (F := F)).1 V (Proc.devRef .tc main_v23_0) = (mid3 V).1 := by
  simp only [bits3]
  after_results_simp
  simp only [TRef.ofBuf_toBuf]
  rfl

/-- The generator's second word. -/
theorem bits3_y : after (bits3 (F := F)).1 V (Proc.devRef .tc main_v23_1) = (mid3 V).2 := by
  simp only [bits3]
  after_results_simp
  simp only [TRef.ofBuf_toBuf]
  rfl

/-- The first part keeps the key and the argument's rows. -/
theorem bits0_keeps : after (bits0 (F := F)).1 V (Proc.devRef .tc main_v9) = V (Proc.devRef .tc main_v9) ∧
    after (bits0 (F := F)).1 V (Proc.devRef .tc main_v11) = V (Proc.devRef .tc main_v11) ∧
    after (bits0 (F := F)).1 V (Proc.devRef .tc main_v0) = V (Proc.devRef .tc main_v0) := by
  simp only [bits0]
  refine ⟨?_, ?_, ?_⟩ <;> after_results_simp

/-- The second part keeps the key and the argument's rows. -/
theorem bits1_keeps : after (bits1 (F := F)).1 V (Proc.devRef .tc main_v9) = V (Proc.devRef .tc main_v9) ∧
    after (bits1 (F := F)).1 V (Proc.devRef .tc main_v11) = V (Proc.devRef .tc main_v11) ∧
    after (bits1 (F := F)).1 V (Proc.devRef .tc main_call0_v1) = V (Proc.devRef .tc main_call0_v1) ∧
    after (bits1 (F := F)).1 V (Proc.devRef .tc main_v0) = V (Proc.devRef .tc main_v0) := by
  simp only [bits1]
  refine ⟨?_, ?_, ?_, ?_⟩ <;> after_results_simp

/-- The third part keeps the key and the argument's rows. -/
theorem bits2_keeps : after (bits2 (F := F)).1 V (Proc.devRef .tc main_v9) = V (Proc.devRef .tc main_v9) ∧
    after (bits2 (F := F)).1 V (Proc.devRef .tc main_call0_v1) = V (Proc.devRef .tc main_call0_v1) ∧
    after (bits2 (F := F)).1 V (Proc.devRef .tc main_v0) = V (Proc.devRef .tc main_v0) := by
  simp only [bits2]
  refine ⟨?_, ?_, ?_⟩ <;> after_results_simp

/-- The last part keeps the argument's rows. -/
theorem bits3_keeps : after (bits3 (F := F)).1 V (Proc.devRef .tc main_v0) = V (Proc.devRef .tc main_v0) := by
  simp only [bits3]
  after_results_simp

/-- The whole generator on two words, under a key. -/
def generate (k0 k1 : IVec S_ 32) (s : Words × Words) : Words × Words :=
  upto20 k0 (third k0 k1) (round 13#32 19#32 (upto16 k0 k1 (third k0 k1) (round 6#32 26#32
    (upto11 k0 (third k0 k1) (round 29#32 3#32 (upto5 k0 k1 s))))))

/-- The generator's results are those of its rounds. -/
theorem bits_both : after (bits (F := F)).1 V (Proc.devRef .tc main_v23_0) =
      (generate (V (Proc.devRef .tc main_v9)) (V (Proc.devRef .tc main_v11)) (start V)).1 ∧
    after (bits (F := F)).1 V (Proc.devRef .tc main_v23_1) =
      (generate (V (Proc.devRef .tc main_v9)) (V (Proc.devRef .tc main_v11)) (start V)).2 ∧
    after (bits (F := F)).1 V (Proc.devRef .tc main_v0) = V (Proc.devRef .tc main_v0) := by
  simp only [bits, after_two]
  refine ⟨?_, ?_, ?_⟩
  · rw [bits3_x, mid3, bits2_y, bits2_x, mid2, (bits2_keeps _).1, (bits2_keeps _).2.1, bits1_y, bits1_x, mid1,
      (bits1_keeps _).1, (bits1_keeps _).2.1, (bits1_keeps _).2.2.1, bits0_y, bits0_x, bits0_k, (bits0_keeps _).1, (bits0_keeps _).2.1]
    rfl
  · rw [bits3_y, mid3, bits2_y, bits2_x, mid2, (bits2_keeps _).1, (bits2_keeps _).2.1, bits1_y, bits1_x, mid1,
      (bits1_keeps _).1, (bits1_keeps _).2.1, (bits1_keeps _).2.2.1, bits0_y, bits0_x, bits0_k, (bits0_keeps _).1, (bits0_keeps _).2.1]
    rfl
  · rw [bits3_keeps, (bits2_keeps _).2.2, (bits1_keeps _).2.2.2, (bits0_keeps _).2.2]

end Cert.ReferenceIdeal.Line

end
-- ==== Proof.Reference.Result.lean ====
/-
  The reference's result, read off its operations before and after the generator's.
-/
module

public import proofs.«01_k».proof.Proof.Reference.Words
public import Idealize.ShloMosaic.Lib.Pipeline.Value

@[expose] public section

set_option maxRecDepth 16384

noncomputable section

namespace Cert.ReferenceIdeal.Line

open Cert.ReferenceIdeal Cert.ReferenceIdeal.Facts₀
open Idealize.ShloMosaic Idealize.SL.Sem
open Idealize.ShloMosaic.StableHlo

variable {F : FTy → Type} [FloatOps F]

/-- The operations that make the key's two words. -/
def keyed : List (HloOp τ sig (Elt F)) := (line 0).1.take 10

/-- The operations from there to the generator. -/
def pre : List (HloOp τ sig (Elt F)) := ((line 0).1.drop 10).take 19

/-- The operations from the generator to the scores. -/
def post : List (HloOp τ sig (Elt F)) := (((line 0).1.drop 29).drop (bits (F := F)).1.length).take 26

/-- The last operation. -/
def fin : List (HloOp τ sig (Elt F)) := [StableHlo.reshape main_v45 main_v46 rfl shapeCasts_S512x100000_S128x4x100000]

/-- The reference's operations, in their parts. -/
theorem ops_parts : ops (F := F) = keyed ++ (pre ++ (bits.1 ++ (post ++ (argmax.1 ++ (oneHot.1 ++ fin))))) := by
  simp only [ops, keyed, pre, post, fin, line, List.drop_succ_cons, List.drop_zero, List.drop_left, List.take_succ_cons, List.take_zero,
    List.cons_append, List.nil_append]

variable (V : Valuation τ sig (Elt F))

/-- The argument's rows. -/
theorem keyed_rows : after (keyed (F := F)) V (Proc.devRef .tc main_v0) =
    shapeCast S512x100000 (V (Proc.devRef .tc main_arg0) : FVec F S128x4x100000 .f32) shapeCasts_S128x4x100000_S512x100000 := by
  simp only [keyed, line, List.take_succ_cons, List.take_zero]
  after_results_simp
  rfl

/-- The seed's high word. -/
theorem keyed_hi : after (keyed (F := F)) V (Proc.devRef .tc main_v3) = constantI S1 32 0#32 := by
  simp only [keyed, line, List.take_succ_cons, List.take_zero]
  after_results_simp
  rfl

/-- The seed's low word. -/
theorem keyed_lo : after (keyed (F := F)) V (Proc.devRef .tc main_v6) = constantI S1 32 42#32 := by
  simp only [keyed, line, List.take_succ_cons, List.take_zero]
  after_results_simp
  exact funext fun _ => (by decide : IntOp.andi 42#32 4294967295#32 = 42#32)

/-- The two words of a key side by side. -/
def pair (a b : IVec S1 32) : IVec S2 32 := concatenate S2 0 [⟨S1, a⟩, ⟨S1, b⟩] concatenates_S1_S1_S2_d0

/-- The key's first word. -/
theorem pre_key0 : after (pre (F := F)) V (Proc.devRef .tc main_v9) =
    shapeCast S_ (extractStridedSlice S1 ![0] (pair (V (Proc.devRef .tc main_v3)) (V (Proc.devRef .tc main_v6))) slices_S2_S1_0)
      shapeCasts_S1_S_ := by
  simp only [pre, line, List.drop_succ_cons, List.drop_zero, List.take_succ_cons, List.take_zero]
  after_results_simp
  rfl

/-- The key's second word. -/
theorem pre_key1 : after (pre (F := F)) V (Proc.devRef .tc main_v11) =
    shapeCast S_ (extractStridedSlice S1 ![1] (pair (V (Proc.devRef .tc main_v3)) (V (Proc.devRef .tc main_v6))) slices_S2_S1_1)
      shapeCasts_S1_S_ := by
  simp only [pre, line, List.drop_succ_cons, List.drop_zero, List.take_succ_cons, List.take_zero]
  after_results_simp
  rfl

/-- The rows stay. -/
theorem pre_rows : after (pre (F := F)) V (Proc.devRef .tc main_v0) = V (Proc.devRef .tc main_v0) := by
  simp only [pre, line, List.drop_succ_cons, List.drop_zero, List.take_succ_cons, List.take_zero]
  after_results_simp

/-- The first word of the pair. -/
theorem pair_fst (a b : BitVec 32) : shapeCast S_ (extractStridedSlice S1 ![0] (pair (constantI S1 32 a) (constantI S1 32 b)) slices_S2_S1_0)
    shapeCasts_S1_S_ = constantI S_ 32 a := by
  funext i
  unfold shapeCast
  generalize Shape.reshapeEquiv _ i = k
  unfold extractStridedSlice pair
  refine concatenate_pair_apply_left (s₁ := S1) (s₂ := S1) (t := S2) 0 (constantI S1 32 a) (constantI S1 32 b) _ _ rfl k fun d => ?_
  fin_cases d
  exact (Nat.zero_add _).symm

/-- The second word of the pair. -/
theorem pair_snd (a b : BitVec 32) : shapeCast S_ (extractStridedSlice S1 ![1] (pair (constantI S1 32 a) (constantI S1 32 b)) slices_S2_S1_1)
    shapeCasts_S1_S_ = constantI S_ 32 b := by
  funext i
  unfold shapeCast
  generalize Shape.reshapeEquiv _ i = k
  unfold extractStridedSlice pair
  refine concatenate_pair_apply_right (s₁ := S1) (s₂ := S1) (t := S2) 0 (constantI S1 32 a) (constantI S1 32 b) _ _ rfl rfl k
    (fun d hd => absurd (by fin_cases d; rfl) hd) ?_
  exact Nat.add_comm _ _

/-- Each element's flat index, in sixty-four bits. -/
def flat64 : IVec S512x100000 64 :=
  addi (muli (broadcastInDim S512x100000 ![] bcast_S_S512x100000 (constantI S_ 64 100000#64)) (iotaInDim S512x100000 64 0))
    (muli (broadcastInDim S512x100000 ![] bcast_S_S512x100000 (constantI S_ 64 1#64)) (iotaInDim S512x100000 64 1))

/-- The flat index's low word. -/
theorem pre_lo : after (pre (F := F)) V (Proc.devRef .tc main_v21) = trunci 32 flat64 natLt_32_64 := by
  simp only [pre, line, List.drop_succ_cons, List.drop_zero, List.take_succ_cons, List.take_zero]
  after_results_simp
  rfl

/-- The flat index's high word. -/
theorem pre_hi : after (pre (F := F)) V (Proc.devRef .tc main_v22) =
    trunci 32 (Host.shrui flat64 (broadcastInDim S512x100000 ![] bcast_S_S512x100000 (constantI S_ 64 32#64))) natLt_32_64 := by
  simp only [pre, line, List.drop_succ_cons, List.drop_zero, List.take_succ_cons, List.take_zero]
  after_results_simp
  rfl

/-- A float at every element. -/
abbrev everyF (b : BitVec 32) : FVec F S512x100000 .f32 := broadcastInDim S512x100000 ![] bcast_S_S512x100000 (constant S_ .f32 b)

/-- The scores of random words over rows of probabilities. -/
def scores (b : Words) (p : FVec F S512x100000 .f32) : FVec F S512x100000 .f32 :=
  addf (Host.negf (Host.log (Host.negf (Host.log (maximumf (everyF 0x00800000#32)
    (addf (mulf (subf (bitcastToFloat .f32 (ori (Host.shrui b (every (constantI S_ 32 9#32))) (every (constantI S_ 32 1065353216#32))))
      (everyF 0x3F800000#32)) (everyF 0x3F800000#32)) (everyF 0x00800000#32))))))) (Host.log p)

/-- The scores. -/
theorem post_scores : after (post (F := F)) V (Proc.devRef .tc main_v43) =
    scores (xori (V (Proc.devRef .tc main_v23_0) : Words) (V (Proc.devRef .tc main_v23_1))) (V (Proc.devRef .tc main_v0)) := by
  simp only [post, line, List.drop_succ_cons, List.drop_zero, List.drop_left, List.take_succ_cons, List.take_zero]
  after_results_simp
  rfl

/-- Each row's index of the largest score. -/
def largest (x : FVec F S512x100000 .f32) : IVec S512 32 := fun j =>
  (Host.argReduce reducer_argmax_f32_i32 x (iotaInDim S512x100000 32 1) (constant S_ .f32 0xFF800000#32) (constantI S_ 32 0#32)
    reducesTo_S512x100000_S512_d1 h_S_ j).2

/-- The index of the largest. -/
theorem argmax_index : after (argmax (F := F)).1 V (Proc.devRef .tc main_v44) = largest (V (Proc.devRef .tc main_v43)) := by
  simp only [argmax]
  after_results_simp
  simp only [TRef.ofBuf_toBuf]
  rfl

/-- The one-hot rows of indices. -/
def hotRows (k : IVec S512 32) : FVec F S512x100000 .f32 :=
  uitofp .f32 (cmpi .eq (broadcastInDim S512x100000 ![0, 1] bcast_S512x1_S512x100000_0_1 (broadcastInDim S512x1 ![0] bcast_S512_S512x1_0 k))
    (broadcastInDim S512x100000 ![0, 1] bcast_S1x100000_S512x100000_0_1 (iotaInDim S1x100000 32 1)))

/-- The one-hot rows. -/
theorem oneHot_rows : after (oneHot (F := F)).1 V (Proc.devRef .tc main_v45) = hotRows (V (Proc.devRef .tc main_v44)) := by
  simp only [oneHot]
  after_results_simp
  simp only [TRef.ofBuf_toBuf]
  rfl

/-- The result. -/
theorem fin_result : after (fin (F := F)) V (Proc.devRef .tc main_v46) =
    shapeCast S128x4x100000 (V (Proc.devRef .tc main_v45) : FVec F S512x100000 .f32) shapeCasts_S512x100000_S128x4x100000 := by
  simp only [fin]
  after_results_simp
  rfl

/-- The random words of all the elements. -/
def allWords : Words :=
  let g := generate (constantI S_ 32 0#32) (constantI S_ 32 42#32)
    (addi (trunci 32 (Host.shrui flat64 (broadcastInDim S512x100000 ![] bcast_S_S512x100000 (constantI S_ 64 32#64))) natLt_32_64)
      (every (constantI S_ 32 0#32)), addi (trunci 32 flat64 natLt_32_64) (every (constantI S_ 32 42#32)))
  xori g.1 g.2

/-- The reference's function of the argument. -/
def result (p : FVec F S128x4x100000 .f32) : FVec F S128x4x100000 .f32 :=
  shapeCast S128x4x100000 (hotRows (largest (scores allWords (shapeCast S512x100000 p shapeCasts_S128x4x100000_S512x100000))))
    shapeCasts_S512x100000_S128x4x100000

/-- The reference's result buffer holds its function of the argument. -/
theorem ops_result : after (ops (F := F)) V (Proc.devRef .tc main_v46) = result (V (Proc.devRef .tc main_arg0)) := by
  rw [ops_parts, after_two, after_two, after_two, after_two, after_two, after_two, fin_result, oneHot_rows, argmax_index, post_scores,
    (bits_both _).1, (bits_both _).2.1, (bits_both _).2.2, start, pre_key0, pre_key1, pre_lo, pre_hi, pre_rows, keyed_hi, keyed_lo, keyed_rows, pair_fst, pair_snd]
  rfl

/-- The reference's run, its result read. -/
theorem run_result (m : (ℓ : Loc nD τ sig) → Buf (Elt F) ℓ) (ρ : Dev nD → PrngReg) :
    θ_run defs (onTc (main (F := F))) ⟨m, fun _ => 0, ρ⟩ (fun r => ∀ c : Dev nD,
      r.2.mem ((c.tc : Thread nD τ).loc main_v46) = result (m ((c.tc : Thread nD τ).loc main_arg0)) ∧
      r.2.mem ((c.tc : Thread nD τ).loc main_arg0) = m ((c.tc : Thread nD τ).loc main_arg0)) :=
  θ_run_mono (run m ρ) fun r h c => ⟨(h c _).trans ((ops_result _).trans rfl), (h c _).trans ((ops_arg _).trans rfl)⟩

end Cert.ReferenceIdeal.Line

end
-- ==== Proof.Value.Words.lean ====
/-
  The random word of one counter: the kernel's words and the reference's are both this function, element by element.
-/
module

public import proofs.«01_k».proof.Proof.Sample.Chunk
public import proofs.«01_k».proof.Proof.Reference.Result
public import Idealize.ShloMosaic.Lib.ValueIdxCore

@[expose] public section

set_option maxRecDepth 16384

noncomputable section

namespace Cert.Sampling

open Idealize.ShloMosaic Idealize.SL.Sem

/-- One round on the two words of one counter. -/
def spin (a b : BitVec 32) (t : BitVec 32 × BitVec 32) : BitVec 32 × BitVec 32 :=
  (t.1 + t.2, (IntOp.shli .vector t.2 a ||| IntOp.shrui .vector t.2 b) ^^^ (t.1 + t.2))

/-- The key added to the two words. -/
def keyed (a b : BitVec 32) (t : BitVec 32 × BitVec 32) : BitVec 32 × BitVec 32 := (t.1 + a, t.2 + b)

/-- Four rounds of the odd groups. -/
def odd4 (t : BitVec 32 × BitVec 32) : BitVec 32 × BitVec 32 :=
  spin 6#32 26#32 (spin 26#32 6#32 (spin 15#32 17#32 (spin 13#32 19#32 t)))

/-- Four rounds of the even groups. -/
def even4 (t : BitVec 32 × BitVec 32) : BitVec 32 × BitVec 32 :=
  spin 24#32 8#32 (spin 16#32 16#32 (spin 29#32 3#32 (spin 17#32 15#32 t)))

/-- The two words after all the rounds on the key (0, 42). -/
def spun (c : BitVec 32) : BitVec 32 × BitVec 32 :=
  keyed 466689008#32 5#32 (odd4 (keyed 42#32 466689012#32 (even4 (keyed 0#32 45#32 (odd4 (keyed 466689008#32 2#32 (even4
    (keyed 42#32 466689009#32 (odd4 (0#32, c))))))))))

/-- The random word of a counter, the key's second word already added to it. -/
def word (c : BitVec 32) : BitVec 32 := (spun c).1 ^^^ (spun c).2

section kernel

open Cert.KernelIdeal.Sample

variable {S : Shape} (i : S.Idx)

/-- The kernel's second word and its sum with the first, at one element. -/
structure Mid (y x : IVec S 32) (t : BitVec 32 × BitVec 32) : Prop where
  y : y i = t.2
  x : x i = t.1 + t.2

variable {i}
variable {y x : IVec S 32} {t : BitVec 32 × BitVec 32}

/-- A round of the kernel. -/
theorem Mid.spin (h : Mid i y x t) (a b : BitVec 32) : Mid i (mix a b y x) (addi x (mix a b y x)) (spin a b t) := by
  have e : mix a b y x i = (Sampling.spin a b t).2 := by
    change (IntOp.shli .vector (y i) a ||| IntOp.shrui .vector (y i) b) ^^^ x i = _
    rw [h.y, h.x]; rfl
  exact ⟨e, by change x i + mix a b y x i = _; rw [e, h.x]; rfl⟩

/-- A round of the kernel and the key after it. -/
theorem Mid.key (h : Mid i y x t) (a b k l : BitVec 32) :
    Mid i (plus (mix a b y x) l) (addi (plus x k) (plus (mix a b y x) l)) (keyed k l (Sampling.spin a b t)) := by
  have e := (h.spin a b).y
  have e' : plus (mix a b y x) l i = (keyed k l (Sampling.spin a b t)).2 := by
    change mix a b y x i + l = _
    rw [e]; rfl
  exact ⟨e', by change (x i + k) + plus (mix a b y x) l i = _; rw [e', h.x]; rfl⟩

/-- The same where the key's first word is zero. -/
theorem Mid.key0 (h : Mid i y x t) (a b l : BitVec 32) :
    Mid i (plus (mix a b y x) l) (addi x (plus (mix a b y x) l)) (keyed 0#32 l (Sampling.spin a b t)) := by
  obtain ⟨e, e'⟩ := h.key a b 0#32 l
  refine ⟨e, e' ▸ ?_⟩
  change x i + _ = (x i + 0#32) + _
  rw [BitVec.add_zero]

/-- The kernel's random words, element by element. -/
theorem words_apply (c : IVec S 32) (i : S.Idx) : words c i = word (c i) := by
  generalize hr : words c = r
  delta words at hr
  extract_lets y1 x1 y2 x2 y3 x3 y4 u4 w4 x4 y5 x5 y6 x6 y7 x7 y8 u8 w8 x8 y9 x9 y10 x10 y11 x11 y12 w12 x12 y13 x13 y14 x14 y15 x15 y16 u16 w16 x16 y17 x17 y18 x18 y19 x19 y20 u20 w20 at hr
  rw [← hr]
  clear hr
  have h0 : Mid i c c (0#32, c i) := ⟨rfl, (BitVec.zero_add _).symm⟩
  have h1 : Mid i y1 x1 _ := h0.spin 13#32 19#32
  have h2 : Mid i y2 x2 _ := h1.spin 15#32 17#32
  have h3 : Mid i y3 x3 _ := h2.spin 26#32 6#32
  have h4 : Mid i w4 x4 _ := h3.key 6#32 26#32 42#32 466689009#32
  have h5 : Mid i y5 x5 _ := h4.spin 17#32 15#32
  have h6 : Mid i y6 x6 _ := h5.spin 29#32 3#32
  have h7 : Mid i y7 x7 _ := h6.spin 16#32 16#32
  have h8 : Mid i w8 x8 _ := h7.key 24#32 8#32 466689008#32 2#32
  have h9 : Mid i y9 x9 _ := h8.spin 13#32 19#32
  have h10 : Mid i y10 x10 _ := h9.spin 15#32 17#32
  have h11 : Mid i y11 x11 _ := h10.spin 26#32 6#32
  have h12 : Mid i w12 x12 _ := h11.key0 6#32 26#32 45#32
  have h13 : Mid i y13 x13 _ := h12.spin 17#32 15#32
  have h14 : Mid i y14 x14 _ := h13.spin 29#32 3#32
  have h15 : Mid i y15 x15 _ := h14.spin 16#32 16#32
  have h16 : Mid i w16 x16 _ := h15.key 24#32 8#32 42#32 466689012#32
  have h17 : Mid i y17 x17 _ := h16.spin 13#32 19#32
  have h18 : Mid i y18 x18 _ := h17.spin 15#32 17#32
  have h19 : Mid i y19 x19 _ := h18.spin 26#32 6#32
  have h20 : Mid i w20 (addi u20 w20) _ := h19.key 6#32 26#32 466689008#32 5#32
  have hf : Mid i w20 (addi u20 w20) (spun (c i)) := h20
  have hu : u20 i + w20 i = (spun (c i)).1 + (spun (c i)).2 := hf.x
  have hw : w20 i = (spun (c i)).2 := hf.y
  have hx : xori u20 w20 i = u20 i ^^^ w20 i := rfl
  rw [hw] at hu
  have e : u20 i = (spun (c i)).1 := by
    have e := congrArg (· - (spun (c i)).2) hu
    simpa only [BitVec.add_sub_cancel] using e
  rw [hx, hw, e, word]

end kernel

section reference

open Cert.ReferenceIdeal Cert.ReferenceIdeal.Line

variable {i : S512x100000.Idx} {s : Words × Words} {t : BitVec 32 × BitVec 32}

/-- The reference's two words at one element. -/
structure Both (i : S512x100000.Idx) (s : Words × Words) (t : BitVec 32 × BitVec 32) : Prop where
  x : s.1 i = t.1
  y : s.2 i = t.2

/-- A round of the reference. -/
theorem Both.spin (h : Both i s t) (a b : BitVec 32) : Both i (round a b s) (spin a b t) := by
  refine ⟨by change s.1 i + s.2 i = _; rw [h.x, h.y]; rfl, ?_⟩
  change (s.1 i + s.2 i) ^^^ (IntOp.shli .host (s.2 i) a ||| IntOp.shrui .host (s.2 i) b) = _
  rw [h.x, h.y, ValueIdx.shli_host, ValueIdx.shrui_host, BitVec.xor_comm]; rfl

/-- The key added by the reference. -/
theorem Both.key (h : Both i s t) (a b : IVec S_ 32) (c k l : BitVec 32) (ha : ∀ z, a z = k) (hb : ∀ z, b z + c = l) :
    Both i (inject a b c s) (keyed k l t) := by
  constructor
  · change s.1 i + a _ = _
    rw [h.x, ha]; rfl
  · change s.2 i + b _ + c = _
    rw [h.y, BitVec.add_assoc, hb]; rfl

/-- The reference's generator at one element. -/
theorem generate_both (c : BitVec 32) (h : Both i s (0#32, c)) : Both i (generate (constantI S_ 32 0#32) (constantI S_ 32 42#32) s) (spun c) := by
  have k0 : ∀ z, constantI S_ 32 0#32 z = 0#32 := fun _ => rfl
  have k1 : ∀ z, constantI S_ 32 42#32 z = 42#32 := fun _ => rfl
  have k2 : ∀ z, third (constantI S_ 32 0#32) (constantI S_ 32 42#32) z = 466689008#32 := fun z => by
    change (0#32 ^^^ 42#32) ^^^ 466688986#32 = _
    decide
  have h1 := (((((h.spin 13#32 19#32).spin 15#32 17#32).spin 26#32 6#32).spin 6#32 26#32).key _ (third (constantI S_ 32 0#32) (constantI S_ 32 42#32))
    1#32 _ 466689009#32 k1 fun z => by rw [k2]; decide)
  have h2 := ((((h1.spin 17#32 15#32).spin 29#32 3#32).spin 16#32 16#32).spin 24#32 8#32).key _ (constantI S_ 32 0#32)
    2#32 _ 2#32 k2 fun z => by rw [k0]; decide
  have h3 := ((((h2.spin 13#32 19#32).spin 15#32 17#32).spin 26#32 6#32).spin 6#32 26#32).key _ (constantI S_ 32 42#32)
    3#32 _ 45#32 k0 fun z => by rw [k1]; decide
  have h4 := ((((h3.spin 17#32 15#32).spin 29#32 3#32).spin 16#32 16#32).spin 24#32 8#32).key _ (third (constantI S_ 32 0#32) (constantI S_ 32 42#32))
    4#32 _ 466689012#32 k1 fun z => by rw [k2]; decide
  have h5 := ((((h4.spin 13#32 19#32).spin 15#32 17#32).spin 26#32 6#32).spin 6#32 26#32).key _ (constantI S_ 32 0#32)
    5#32 _ 5#32 k2 fun z => by rw [k0]; decide
  unfold generate upto20 upto16 upto11 upto5 spun odd4 even4
  exact h5

/-- The flat index of an element, in 64 bits. -/
theorem flat64_apply (i : S512x100000.Idx) : flat64 i = BitVec.ofNat 64 ((i 0).val * 100000 + (i 1).val) := by
  change 100000#64 * BitVec.ofNat 64 (i 0).val + 1#64 * BitVec.ofNat 64 (i 1).val = _
  rw [BitVec.one_mul, BitVec.mul_comm, ← BitVec.ofNat_mul, ← BitVec.ofNat_add]

/-- A small index has no high word. -/
theorem high_word (n : ℕ) (hn : n < 2 ^ 32) : (IntOp.shrui .host (BitVec.ofNat 64 n) 32#64).setWidth 32 = 0#32 := by
  have h32 : (32#64).toNat = 32 := by decide
  have e : IntOp.shrui .host (BitVec.ofNat 64 n) 32#64 = BitVec.ofNat 64 n >>> 32 := by
    unfold IntOp.shrui
    rw [h32]
    rfl
  rw [e]
  apply BitVec.eq_of_toNat_eq
  rw [BitVec.toNat_setWidth, BitVec.toNat_ushiftRight, BitVec.toNat_ofNat, Nat.shiftRight_eq_div_pow, Nat.div_eq_of_lt]
  · rfl
  · omega

/-- The low word of an index. -/
theorem low_word (n : ℕ) : (BitVec.ofNat 64 n).setWidth 32 = BitVec.ofNat 32 n := by
  apply BitVec.eq_of_toNat_eq
  rw [BitVec.toNat_setWidth, BitVec.toNat_ofNat, BitVec.toNat_ofNat]
  omega

/-- The reference's random words, element by element. -/
theorem allWords_apply (i : S512x100000.Idx) : allWords i = word (BitVec.ofNat 32 ((i 0).val * 100000 + (i 1).val) + 42#32) := by
  have hr : (i 0).val < 512 := (i 0).isLt
  have hk : (i 1).val < 100000 := (i 1).isLt
  unfold allWords
  generalize hg : generate _ _ _ = g
  have h : Both i g (spun (BitVec.ofNat 32 ((i 0).val * 100000 + (i 1).val) + 42#32)) := by
    rw [← hg]
    refine generate_both _ ⟨?_, ?_⟩
    · change (IntOp.shrui .host (flat64 i) 32#64).setWidth 32 + 0#32 = 0#32
      rw [flat64_apply, BitVec.add_zero, high_word _ (by omega)]
    · change (flat64 i).setWidth 32 + 42#32 = _
      rw [flat64_apply, low_word]
  change g.1 i ^^^ g.2 i = _
  rw [h.x, h.y]; rfl

end reference

end Cert.Sampling

end
-- ==== Proof.Value.Scores.lean ====
/-
  The score of one element, at the ideal instance: the Gumbel noise of its random word plus the logarithm of its probability.
  The kernel's scores and the reference's are both this function.
-/
module

public import proofs.«01_k».proof.Proof.Value.Words
public import Idealize.ShloMosaic.Lib.IdealHost

@[expose] public section

set_option maxRecDepth 16384

noncomputable section

namespace Cert.Sampling

open Idealize.ShloMosaic Idealize.SL.Sem

/-- The uniform value of a random word: the float of its 23 high bits, at least the least normal float. -/
def uniform (w : BitVec 32) : EReal :=
  max (Ideal.ofBits .f32 0x00800000#32)
    (Ideal.ofBits .f32 (IntOp.shrui .vector w 9#32 ||| 1065353216#32) - 1 + Ideal.ofBits .f32 0x00800000#32)

/-- The Gumbel noise of a random word. -/
def gumbel (w : BitVec 32) : EReal := -Ideal.log (-Ideal.log (uniform w))

/-- The score of the element at flat index `n`, its probability `p`. -/
def scoreAt (n : ℕ) (p : EReal) : EReal := gumbel (word (BitVec.ofNat 32 n + 42#32)) + Ideal.log p

/-- The kernel's noise, element by element. -/
theorem noise_apply {S : Shape} (b : IVec S 32) (i : S.Idx) : KernelIdeal.Sample.noise (F := Ideal) b i = gumbel (b i) := by
  change (Ideal.ofBits .f32 0x00000000#32 - Ideal.log (Ideal.ofBits .f32 0x00000000#32 - Ideal.log (max (Ideal.ofBits .f32 0x00800000#32)
    (Ideal.ofBits .f32 (IntOp.shrui .vector (b i) 9#32 ||| 1065353216#32) - Ideal.ofBits .f32 0x3F800000#32
      + Ideal.ofBits .f32 0x00800000#32)))) = _
  rw [Ideal.ofBits_zero_f32, Ideal.ofBits_one_f32, zero_sub, zero_sub]
  rfl

/-- The kernel's scores, element by element. -/
theorem score_apply {S : Shape} (c : IVec S 32) (p : FVec Ideal S .f32) (i : S.Idx) :
    KernelIdeal.Sample.score c p i = gumbel (word (c i)) + Ideal.log (p i) := by
  have key : ∀ w : IVec S 32, (addf (KernelIdeal.Sample.noise (F := Ideal) w) (log p)) i = gumbel (w i) + Ideal.log (p i) := fun w => by
    rw [← noise_apply w i]
    rfl
  exact (key (KernelIdeal.Sample.words c)).trans (congrArg (fun z => gumbel z + Ideal.log (p i)) (words_apply c i))

/-- The reference's scores of any words, element by element. -/
theorem scores_of (b : ReferenceIdeal.Line.Words) (p : FVec Ideal ReferenceIdeal.S512x100000 .f32) (i : ReferenceIdeal.S512x100000.Idx) :
    ReferenceIdeal.Line.scores b p i = gumbel (b i) + Ideal.log (p i) := by
  change -Ideal.log (-Ideal.log (max (Ideal.ofBits .f32 0x00800000#32)
    ((Ideal.ofBits .f32 (IntOp.shrui .host (b i) 9#32 ||| 1065353216#32) - Ideal.ofBits .f32 0x3F800000#32)
      * Ideal.ofBits .f32 0x3F800000#32 + Ideal.ofBits .f32 0x00800000#32))) + Ideal.log (p i) = _
  rw [Ideal.ofBits_one_f32, mul_one, ValueIdx.shrui_host]
  rfl

/-- The reference's scores, element by element. -/
theorem scores_apply (p : FVec Ideal ReferenceIdeal.S512x100000 .f32) (i : ReferenceIdeal.S512x100000.Idx) :
    ReferenceIdeal.Line.scores ReferenceIdeal.Line.allWords p i = scoreAt ((i 0).val * 100000 + (i 1).val) (p i) := by
  rw [scores_of, allWords_apply, scoreAt]

/-- A select on a decided bit. -/
theorem select_ofBool {α : Type} (b : Bool) (x y : α) : Scalar.select (BitVec.ofBool b) x y = if b then x else y := by
  cases b <;> rfl

/-- A select on "greater". -/
theorem select_gt {α : Type} (a b : EReal) (x y : α) : Scalar.select (Ideal.cmp .ogt a b) x y = if b < a then x else y := by
  unfold Ideal.cmp
  rw [select_ofBool]
  simp only [decide_eq_true_eq]

/-- A select on "equal". -/
theorem select_eq {α : Type} (a b : EReal) (x y : α) : Scalar.select (Ideal.cmp .oeq a b) x y = if a = b then x else y := by
  unfold Ideal.cmp
  rw [select_ofBool]
  simp only [decide_eq_true_eq]

/-- The pattern of minus infinity. -/
theorem ofBits_bot : Ideal.ofBits .f32 0xFF800000#32 = ⊥ := by
  simp [Ideal.ofBits, Ideal.ieee]

end Cert.Sampling

end
-- ==== Proof.Value.Lanes.lean ====
/-
  The kernel's winning columns, at the ideal instance: row `q` of the block at grid point `i` wins at the first index of the
  largest of the row's 100000 scores.
-/
module

public import proofs.«01_k».proof.Proof.Value.Best
public import proofs.«01_k».proof.Proof.Value.Scores
public import proofs.«01_k».proof.Proof.Sample.Triple
public import Idealize.ShloMosaic.PureOps.Ideal.Laws
public import Idealize.ShloMosaic.Lib.Pipeline.Value
public import Idealize.ShloMosaic.Lib.Pipeline.ValueKit.Tiles

@[expose] public section

set_option maxRecDepth 16384

noncomputable section

namespace Cert.Sampling

open Cert.KernelIdeal Cert.KernelIdeal.Gen Cert.KernelIdeal.Sample
open Idealize.ShloMosaic Idealize.SL.Sem ValueIdx

/-- The score of column `k` of a row whose first element has flat index `b`. -/
def rowScore (b : ℕ) (x : ℕ → EReal) (k : ℕ) : EReal := scoreAt (b + k) (x k)

variable (i : grid0.Coords) (X : Vec Ideal S2x4x100000 .f32) (q : Fin 8)

/-- The flat index of a row's first element. -/
def base : ℕ := (8 * (i 0).val + q.val) * 100000

/-- A row's probabilities, by column. -/
def probs (k : ℕ) : EReal :=
  if h : k < 100000 then X (ix3 ⟨q.val / 4, by omega⟩ ⟨q.val % 4, by omega⟩ ⟨k, h⟩) else 0

/-- A column spread over the lanes of a chunk. -/
theorem spread {α : Type} (x : S8x1.Idx → α) (l : Fin 2048) : broadcastTo S8x2048 x broadcasts_S8x1_S8x2048 (ix2 q l) = x (ix2 q 0) := by
  refine broadcastTo_apply _ _ _ _ fun a => ?_
  match a with
  | 0 => rfl
  | 1 => rfl

/-- A column spread over the remaining lanes. -/
theorem spreadTail {α : Type} (x : S8x1.Idx → α) (l : Fin 1696) : broadcastTo S8x1696 x broadcasts_S8x1_S8x1696 (ix2 q l) = x (ix2 q 0) := by
  refine broadcastTo_apply _ _ _ _ fun a => ?_
  match a with
  | 0 => rfl
  | 1 => rfl

/-- A chunk's lane numbers. -/
theorem lane (l : Fin 2048) : iota .tc S8x2048 32 [1] iota_S8x2048_d1_w32 (ix2 q l) = BitVec.ofNat 32 l.val := iota_single_apply ..

/-- The remaining lanes' numbers. -/
theorem laneTail (l : Fin 1696) : iota .tc S8x1696 32 [1] iota_S8x1696_d1_w32 (ix2 q l) = BitVec.ofNat 32 l.val := iota_single_apply ..

/-- Each row's first flat index, as the kernel computes it. -/
theorem rowBase_apply (z : Fin 1) : rowBase i (ix2 q z) = BitVec.ofNat 32 (base i q) := by
  have e : iota .tc S8x1 32 [0] iota_S8x1_d0_w32 (ix2 q z) = BitVec.ofNat 32 q.val := iota_single_apply ..
  change (iota .tc S8x1 32 [0] iota_S8x1_d0_w32 (ix2 q z) + BitVec.ofNat 32 (i 0).val * 8#32) * 100000#32 = _
  rw [e]
  unfold base
  rw [BitVec.ofNat_mul, BitVec.ofNat_add, BitVec.ofNat_mul, BitVec.add_comm, BitVec.mul_comm (BitVec.ofNat 32 (i 0).val)]

/-- The counters of chunk 0, by lane. -/
theorem ctr0_apply (l : Fin 2048) : ctr0 i (ix2 q l) = BitVec.ofNat 32 (base i q + l.val) + 42#32 := by
  change broadcastTo S8x2048 (rowBase i) broadcasts_S8x1_S8x2048 (ix2 q l) + iota .tc S8x2048 32 [1] iota_S8x2048_d1_w32 (ix2 q l) + 42#32 = _
  rw [spread, rowBase_apply, lane, ← BitVec.ofNat_add]

/-- A chunk's probabilities, by lane. -/
theorem chunk_apply (j : ℕ) (hj : j < 48) (l : Fin 2048) :
    shapeCast S8x2048 (View.ld X (chunkRect j hj)) shapeCasts_S2x4x2048_S8x2048 (ix2 q l) = probs X q (2048 * j + l.val) := by
  have hl := l.isLt
  have hq := q.isLt
  rw [shapeCast_apply _ _ (ix2 q l) (ix3 ⟨q.val / 4, by omega⟩ ⟨q.val % 4, by omega⟩ l : S2x4x2048.Idx)]
  · unfold probs
    rw [dif_pos (by omega)]
    refine View.ld_unit_apply_of X _ _ _ _ _ fun a => ?_
    match a with
    | 0 => exact (Nat.zero_add _).symm
    | 1 => exact (Nat.zero_add _).symm
    | 2 => rfl
  · rw [Shape.rowMajor_val_three, Shape.rowMajor_val_two]
    change (q.val / 4 * 4 + q.val % 4) * 2048 + l.val = q.val * 2048 + l.val
    rw [Nat.div_add_mod' q.val 4]

/-- The remaining columns' probabilities. -/
theorem tail_apply (l : Fin 1696) :
    shapeCast S8x1696 (View.ld X tailRect) shapeCasts_S2x4x1696_S8x1696 (ix2 q l) = probs X q (98304 + l.val) := by
  have hl := l.isLt
  have hq := q.isLt
  rw [shapeCast_apply _ _ (ix2 q l) (ix3 ⟨q.val / 4, by omega⟩ ⟨q.val % 4, by omega⟩ l : S2x4x1696.Idx)]
  · unfold probs
    rw [dif_pos (by omega)]
    refine View.ld_unit_apply_of X _ _ _ _ _ fun a => ?_
    match a with
    | 0 => exact (Nat.zero_add _).symm
    | 1 => exact (Nat.zero_add _).symm
    | 2 => rfl
  · rw [Shape.rowMajor_val_three, Shape.rowMajor_val_two]
    change (q.val / 4 * 4 + q.val % 4) * 1696 + l.val = q.val * 1696 + l.val
    rw [Nat.div_add_mod' q.val 4]

/-- A row's scores, by column. -/
abbrev rowF : ℕ → EReal := rowScore (base i q) (probs X q)

/-- A chunk's score at a lane. -/
theorem chunk_score (j : ℕ) (hj : j < 48) (l : Fin 2048) :
    score (F := Ideal) (addi (ctr0 i) (broadcast S8x2048 (BitVec.ofNat 32 (2048 * j))))
      (shapeCast S8x2048 (View.ld X (chunkRect j hj)) shapeCasts_S2x4x2048_S8x2048) (ix2 q l) = rowF i X q (2048 * j + l.val) := by
  rw [score_apply, chunk_apply]
  unfold rowF rowScore scoreAt
  congr 3
  change ctr0 i (ix2 q l) + BitVec.ofNat 32 (2048 * j) = _
  rw [ctr0_apply, BitVec.add_assoc, BitVec.add_comm 42#32, ← BitVec.add_assoc, ← BitVec.ofNat_add, Nat.add_assoc, Nat.add_comm l.val]

/-- The remaining columns' score. -/
theorem tail_score (l : Fin 1696) : tailScore i (View.ld X tailRect) (ix2 q l) = rowF i X q (98304 + l.val) := by
  unfold tailScore
  rw [score_apply, tail_apply]
  unfold rowF rowScore scoreAt
  refine congrArg (fun w => gumbel (word w) + Ideal.log (probs X q (98304 + l.val))) ?_
  change broadcastTo S8x1696 (rowBase i) broadcasts_S8x1_S8x1696 (ix2 q l) + iota .tc S8x1696 32 [1] iota_S8x1696_d1_w32 (ix2 q l) + 98346#32 = _
  rw [spreadTail, rowBase_apply, laneTail, ← BitVec.ofNat_add, Nat.add_left_comm, BitVec.ofNat_add 98304, BitVec.add_comm (BitVec.ofNat 32 98304), BitVec.add_assoc,
    show (98304#32 + 42#32 : BitVec 32) = 98346#32 from by decide]

attribute [local irreducible] score words

/-- One chunk's step at a lane: the score against what the scan carries. -/
theorem step_apply (j : ℕ) (hj : j < 48) (s : Sample.Best Ideal) (l : Fin 2048) :
    (step (ctr0 i) j (View.ld X (chunkRect j hj)) s).m (ix2 q l)
        = (if (s.m (ix2 q l) : EReal) < rowF i X q (2048 * j + l.val) then rowF i X q (2048 * j + l.val) else s.m (ix2 q l)) ∧
      (step (ctr0 i) j (View.ld X (chunkRect j hj)) s).j (ix2 q l)
        = if (s.m (ix2 q l) : EReal) < rowF i X q (2048 * j + l.val) then BitVec.ofNat 32 j else s.j (ix2 q l) := by
  have hs := chunk_score i X q j hj l
  obtain ⟨sc, hsc⟩ : ∃ sc, sc = score (F := Ideal) (addi (ctr0 i) (broadcast S8x2048 (BitVec.ofNat 32 (2048 * j))))
      (shapeCast S8x2048 (View.ld X (chunkRect j hj)) shapeCasts_S2x4x2048_S8x2048) := ⟨_, rfl⟩
  have e : step (ctr0 i) j (View.ld X (chunkRect j hj)) s
      = ⟨select (cmpf .ogt sc s.m) sc s.m, select (cmpf .ogt sc s.m) (broadcast S8x2048 (BitVec.ofNat 32 j)) s.j⟩ := by
    rw [hsc]
    rfl
  rw [← hsc] at hs
  rw [e, ← hs]
  exact ⟨select_gt (sc (ix2 q l)) (s.m (ix2 q l)) _ _, select_gt (sc (ix2 q l)) (s.m (ix2 q l)) _ _⟩

/-- The scan of `n` more chunks keeps the first largest at every lane. -/
theorem scanned_best (l : Fin 2048) : ∀ (n j : ℕ) (h : j + n ≤ 48) (s : Sample.Best Ideal) (k : ℕ),
    Best (· < j) (fun a => rowF i X q (2048 * a + l.val)) (s.m (ix2 q l)) k → s.j (ix2 q l) = BitVec.ofNat 32 k →
    ∃ k', Best (· < j + n) (fun a => rowF i X q (2048 * a + l.val)) ((scanned (ctr0 i) X n j h s).m (ix2 q l)) k' ∧
      (scanned (ctr0 i) X n j h s).j (ix2 q l) = BitVec.ofNat 32 k'
  | 0, j, h, s, k, hb, hk => ⟨k, hb, hk⟩
  | n + 1, j, h, s, k, hb, hk => by
    unfold scanned
    obtain ⟨em, ej⟩ := step_apply i X q j (by omega) s l
    generalize step (ctr0 i) j (View.ld X (chunkRect j (by omega))) s = s' at em ej ⊢
    have hlt : ∀ a, a < j + 1 ↔ (a < j ∨ a = j) := fun a => by omega
    have e : j + (n + 1) = j + 1 + n := by omega
    rw [e]
    by_cases hg : (s.m (ix2 q l) : EReal) < rowF i X q (2048 * j + l.val)
    · rw [if_pos hg] at em ej
      refine scanned_best l n (j + 1) (by omega) s' j ?_ ej
      rw [em]
      exact (hb.take j hg).congr hlt
    · rw [if_neg hg] at em ej
      refine scanned_best l n (j + 1) (by omega) s' k ?_ (ej.trans hk)
      rw [em]
      refine (hb.keep j (not_lt.mp hg) fun _ => ?_).congr hlt
      rcases hb.meets with ⟨hm, -⟩ | ⟨-, h0⟩
      · exact hm.le
      · omega

/-- What the scan of the full chunks ends with. -/
def ended : Sample.Best Ideal := scanned (ctr0 i) X 48 0 (by omega) best0

/-- It has each lane's first largest. -/
theorem ended_best (l : Fin 2048) : ∃ k, Best (· < 48) (fun a => rowF i X q (2048 * a + l.val)) ((ended i X).m (ix2 q l)) k ∧
    (ended i X).j (ix2 q l) = BitVec.ofNat 32 k := by
  refine scanned_best i X q l 48 0 (by omega) best0 0 ?_ rfl
  have e : (best0 (F := Ideal)).m (ix2 q l) = (⊥ : EReal) := ofBits_bot
  rw [e]
  exact Best.none.congr fun a => by simp

/-- A column's row. -/
theorem column {α : Type} (x : S8.Idx → α) : shapeCast S8x1 x shapeCasts_S8_S8x1 (ix2 q 0) = x (ix1 q) := by
  refine shapeCast_apply _ _ _ _ ?_
  rw [Shape.rowMajor_val_one, Shape.rowMajor_val_two]
  change q.val = q.val * 1 + 0
  omega

/-- The lanes of a row. -/
theorem lift_chunk (l : Fin 2048) : reduces_S8x2048_S8.lift (ix1 q) l = ix2 q l := by
  funext a
  match a with
  | 0 => rfl
  | 1 => rfl

/-- The remaining lanes of a row. -/
theorem lift_tail (l : Fin 1696) : reduces_S8x1696_S8.lift (ix1 q) l = ix2 q l := by
  funext a
  match a with
  | 0 => rfl
  | 1 => rfl

/-- A row's maximum over the full chunks. -/
theorem fullMax_apply (s : Sample.Best Ideal) : fullMax s (ix2 q 0) = Finset.univ.fold max (⊥ : EReal) fun l : Fin 2048 => s.m (ix2 q l) := by
  unfold fullMax
  refine (column q _).trans ((Ideal.multiReduction_maximumf_single (a := 1) s.m _ reduces_S8x2048_S8 (.inl rfl) rfl (ix1 q)).trans ?_)
  change Finset.univ.fold max (Ideal.ofBits .f32 0xFF800000#32) (fun l : Fin 2048 => s.m (reduces_S8x2048_S8.lift (ix1 q) l)) = _
  rw [ofBits_bot]
  exact congrArg (fun g => Finset.univ.fold max (⊥ : EReal) g) (funext fun l => by rw [lift_chunk])

/-- A row's maximum over the remaining columns. -/
theorem tailMax_apply (sc : FVec Ideal S8x1696 .f32) : tailMax sc (ix2 q 0) = Finset.univ.fold max (⊥ : EReal) fun l : Fin 1696 => sc (ix2 q l) := by
  unfold tailMax
  refine (column q _).trans ((Ideal.multiReduction_maximumf_single (a := 1) sc _ reduces_S8x1696_S8 (.inl rfl) rfl (ix1 q)).trans ?_)
  change Finset.univ.fold max (Ideal.ofBits .f32 0xFF800000#32) (fun l : Fin 1696 => sc (reduces_S8x1696_S8.lift (ix1 q) l)) = _
  rw [ofBits_bot]
  exact congrArg (fun g => Finset.univ.fold max (⊥ : EReal) g) (funext fun l => by rw [lift_tail])

/-- A row's least index over the full chunks. -/
theorem fullArg_apply (s : Sample.Best Ideal) : fullArg s (ix2 q 0) =
    Finset.univ.fold IKind.minsi.op 2147483647#32 fun l : Fin 2048 =>
      if s.m (ix2 q l) = fullMax s (ix2 q 0) then s.j (ix2 q l) * 2048#32 + BitVec.ofNat 32 l.val else BitVec.ofNat 32 100000 := by
  unfold fullArg
  refine (column q _).trans ((multiReductionI_eq_fold .minsi _ _ reduces_S8x2048_S8 rfl (ix1 q)).trans ?_)
  refine (reduces_S8x2048_S8.fold_filter_drop_single IKind.minsi.op _ _ (ix1 q)).trans ?_
  refine congrArg (fun g => Finset.univ.fold IKind.minsi.op 2147483647#32 g) (funext fun (l : Fin 2048) => ?_)
  change Scalar.select (Ideal.cmp .oeq (s.m (reduces_S8x2048_S8.lift (ix1 q) l))
      (broadcastTo S8x2048 (fullMax s) broadcasts_S8x1_S8x2048 (reduces_S8x2048_S8.lift (ix1 q) l)))
    (s.j (reduces_S8x2048_S8.lift (ix1 q) l) * 2048#32 + iota .tc S8x2048 32 [1] iota_S8x2048_d1_w32 (reduces_S8x2048_S8.lift (ix1 q) l))
    100000#32 = _
  rw [select_eq, lift_chunk, spread, lane]

/-- A row's least index over the remaining columns. -/
theorem tailArg_apply (sc : FVec Ideal S8x1696 .f32) : tailArg sc (ix2 q 0) =
    Finset.univ.fold IKind.minsi.op 2147483647#32 fun l : Fin 1696 =>
      if sc (ix2 q l) = tailMax sc (ix2 q 0) then BitVec.ofNat 32 l.val + 98304#32 else BitVec.ofNat 32 100000 := by
  unfold tailArg
  refine (column q _).trans ((multiReductionI_eq_fold .minsi _ _ reduces_S8x1696_S8 rfl (ix1 q)).trans ?_)
  refine (reduces_S8x1696_S8.fold_filter_drop_single IKind.minsi.op _ _ (ix1 q)).trans ?_
  refine congrArg (fun g => Finset.univ.fold IKind.minsi.op 2147483647#32 g) (funext fun (l : Fin 1696) => ?_)
  change Scalar.select (Ideal.cmp .oeq (sc (reduces_S8x1696_S8.lift (ix1 q) l))
      (broadcastTo S8x1696 (tailMax sc) broadcasts_S8x1_S8x1696 (reduces_S8x1696_S8.lift (ix1 q) l)))
    (iota .tc S8x1696 32 [1] iota_S8x1696_d1_w32 (reduces_S8x1696_S8.lift (ix1 q) l) + 98304#32)
    100000#32 = _
  rw [select_eq, lift_tail, spreadTail, laneTail]

/-- The full chunks of a row: the first largest of their scores. -/
theorem full_best : ∃ k, fullArg (ended i X) (ix2 q 0) = BitVec.ofNat 32 k ∧
    Best (· < 98304) (rowF i X q) (fullMax (ended i X) (ix2 q 0)) k := by
  choose J hJ eJ using ended_best i X q
  have met := fun l => (hJ l).met (by omega)
  rw [fullArg_apply, fullMax_apply]
  obtain ⟨k, ek, hk⟩ := best_row (by omega : 0 < 2048) 100000 (by omega) (fun l a => ∃ c, c < 48 ∧ a = 2048 * c + l.val) (rowF i X q)
    (fun l => (ended i X).m (ix2 q l)) (fun l => 2048 * J l + l.val) (fun l => by have := (met l).1; have := l.isLt; omega)
    (fun l => ⟨(met l).2.symm, J l, (met l).1, rfl⟩)
    (by rintro l a ⟨c, hc, rfl⟩; exact (hJ l).le c hc)
    (by rintro l a ⟨c, hc, rfl⟩ e; have := (hJ l).first c hc e; omega)
  refine ⟨k, ?_, hk.congr fun a => ⟨fun h => ⟨⟨a % 2048, by omega⟩, a / 2048, by omega, by simp only; omega⟩, ?_⟩⟩
  · rw [← ek]
    refine congrArg (fun g => Finset.univ.fold IKind.minsi.op 2147483647#32 g) (funext fun l => ?_)
    rw [eJ, BitVec.ofNat_add, BitVec.ofNat_mul, BitVec.mul_comm]
  · rintro ⟨l, c, hc, rfl⟩
    have := l.isLt
    omega

/-- The remaining columns of a row: the first largest of their scores. -/
theorem tail_best : ∃ k, tailArg (tailScore i (View.ld X tailRect)) (ix2 q 0) = BitVec.ofNat 32 k ∧
    Best (fun a => 98304 ≤ a ∧ a < 100000) (rowF i X q) (tailMax (tailScore i (View.ld X tailRect)) (ix2 q 0)) k := by
  rw [tailArg_apply, tailMax_apply]
  have sc : (fun l : Fin 1696 => tailScore i (View.ld X tailRect) (ix2 q l)) = fun l => rowF i X q (98304 + l.val) :=
    funext fun l => tail_score i X q l
  rw [sc]
  obtain ⟨k, ek, hk⟩ := best_row (by omega : 0 < 1696) 100000 (by omega) (fun l a => a = 98304 + l.val) (rowF i X q)
    (fun l => rowF i X q (98304 + l.val)) (fun l => 98304 + l.val) (fun l => by have := l.isLt; omega)
    (fun l => ⟨rfl, rfl⟩) (by rintro l a rfl; exact le_rfl) (by rintro l a rfl _; exact le_rfl)
  refine ⟨k, ?_, hk.congr fun a => ⟨fun h => ⟨⟨a - 98304, by omega⟩, by simp only; omega⟩, ?_⟩⟩
  · rw [← ek]
    refine congrArg (fun g => Finset.univ.fold IKind.minsi.op 2147483647#32 g) (funext fun l => ?_)
    rw [tail_score, BitVec.ofNat_add, BitVec.add_comm]
  · rintro ⟨l, rfl⟩
    have := l.isLt
    omega

/-- The winning column of a row: the first index of the largest of its scores. -/
theorem winners_best : ∃ v k, winners i X (ix2 q 0) = BitVec.ofNat 32 k ∧ Best (· < 100000) (rowF i X q) v k := by
  obtain ⟨k, ek, hk⟩ := full_best i X q
  obtain ⟨l, el, hl⟩ := tail_best i X q
  refine ⟨_, _, ?_, (hk.join (by omega) hl).congr fun a => by omega⟩
  have e : winners i X (ix2 q 0) = if (fullMax (ended i X) (ix2 q 0) : EReal) < tailMax (tailScore i (View.ld X tailRect)) (ix2 q 0)
      then tailArg (tailScore i (View.ld X tailRect)) (ix2 q 0) else fullArg (ended i X) (ix2 q 0) :=
    select_gt (tailMax (tailScore i (View.ld X tailRect)) (ix2 q 0)) (fullMax (ended i X) (ix2 q 0)) _ _
  rw [e, el, ek]
  split_ifs <;> rfl

end Cert.Sampling

end
-- ==== Proof.Value.Largest.lean ====
/-
  The reference's index of the largest score of a row, at the ideal instance: the first index of the largest value.
-/
module

public import proofs.«01_k».proof.Proof.Value.Best
public import proofs.«01_k».proof.Proof.Value.Scores
public import Idealize.ShloMosaic.PureOps.Ideal.Laws
public import Idealize.ShloMosaic.Lib.Pipeline.Value

@[expose] public section

set_option maxRecDepth 16384

noncomputable section

namespace Cert.Sampling

open Cert.ReferenceIdeal Cert.ReferenceIdeal.Facts₀
open Idealize.ShloMosaic Idealize.SL.Sem ValueIdx

/-- Signed order of small words is the order of their numbers. -/
theorem slt_small (a b : ℕ) (ha : a < 100000) (hb : b < 100000) : (BitVec.ofNat 32 a).slt (BitVec.ofNat 32 b) = decide (a < b) := by
  have toi : ∀ a, a < 100000 → (BitVec.ofNat 32 a).toInt = a := by
    intro a ha
    rw [BitVec.toInt_eq_toNat_cond, BitVec.toNat_ofNat]
    omega
  rw [BitVec.slt, toi a ha, toi b hb]
  simp only [Nat.cast_lt]

/-- The reducer on two scores with small indices. -/
theorem reducer_apply (v w : EReal) (k a : ℕ) (hk : k < 100000) (ha : a < 100000) :
    reducer_argmax_f32_i32 (F := Ideal) (v, BitVec.ofNat 32 k) (w, BitVec.ofNat 32 a)
      = (if w < v then v else w, if w < v ∨ (v = w ∧ k < a) then BitVec.ofNat 32 k else BitVec.ofNat 32 a) := by
  change (Scalar.select (BitVec.ofBool (decide (w < v)) ||| BitVec.ofBool (decide (v ≠ v))) v w,
    Scalar.select ((BitVec.ofBool (decide (w < v)) ||| BitVec.ofBool (decide (v ≠ v))) |||
      (BitVec.ofBool (decide (v = w)) &&& BitVec.ofBool ((BitVec.ofNat 32 k).slt (BitVec.ofNat 32 a)))) (BitVec.ofNat 32 k) (BitVec.ofNat 32 a)) = _
  rw [slt_small k a hk ha]
  simp only [BitVec.ofBool_or_ofBool, BitVec.ofBool_and_ofBool, select_ofBool, ne_eq, not_true_eq_false, decide_false, Bool.or_false,
    Bool.or_eq_true, Bool.and_eq_true, decide_eq_true_eq]

/-- The fold over scores with small indices keeps the first largest, whatever the order. -/
theorem foldl_best (f : ℕ → EReal) : ∀ (L : List ℕ) (P : ℕ → Prop) (v : EReal) (k : ℕ), (∀ a ∈ L, a < 100000) → k < 100000 → Best P f v k →
    ∃ w l, ((L.map fun a => ((f a, BitVec.ofNat 32 a) : EReal × BitVec 32)).foldl (reducer_argmax_f32_i32 (F := Ideal)) (v, BitVec.ofNat 32 k))
      = (w, BitVec.ofNat 32 l) ∧ Best (fun a => P a ∨ a ∈ L) f w l
  | [], P, v, k, _, _, h => ⟨v, k, rfl, h.congr fun a => by simp⟩
  | a :: L, P, v, k, hL, hk, h => by
    have ha := hL a List.mem_cons_self
    have hL' := fun b hb => hL b (List.mem_cons_of_mem a hb)
    rw [List.map_cons, List.foldl_cons, reducer_apply v (f a) k a hk ha]
    have e : ∀ b, (P b ∨ b ∈ a :: L) ↔ ((P b ∨ b = a) ∨ b ∈ L) := fun b => by rw [List.mem_cons, or_assoc]
    rcases lt_trichotomy (f a) v with hlt | heq | hgt
    · rw [if_pos hlt, if_pos (.inl hlt)]
      obtain ⟨w, l, e1, e2⟩ := foldl_best f L _ v k hL' hk (h.keep a hlt.le fun e => absurd e hlt.ne)
      exact ⟨w, l, e1, e2.congr e⟩
    · rw [if_neg (heq ▸ lt_irrefl _), heq]
      by_cases hka : k < a
      · rw [if_pos (.inr ⟨rfl, hka⟩)]
        obtain ⟨w, l, e1, e2⟩ := foldl_best f L _ v k hL' hk (h.keep a heq.le fun _ => hka.le)
        exact ⟨w, l, e1, e2.congr e⟩
      · rw [if_neg (by rintro (h | h); exacts [lt_irrefl _ h, hka h.2])]
        obtain ⟨w, l, e1, e2⟩ := foldl_best f L _ v a hL' ha (h.turn a heq (by omega))
        exact ⟨w, l, e1, e2.congr e⟩
    · rw [if_neg hgt.not_gt, if_neg (by rintro (h | h); exacts [hgt.not_gt h, hgt.ne h.1])]
      obtain ⟨w, l, e1, e2⟩ := foldl_best f L _ (f a) a hL' ha (h.take a hgt)
      exact ⟨w, l, e1, e2.congr e⟩

/-- A row of scores, by column. -/
def rowOf (x : FVec Ideal S512x100000 .f32) (r : Fin 512) (k : ℕ) : EReal := if h : k < 100000 then x (ix2 r ⟨k, h⟩) else 0

/-- The indices, by the fold. -/
theorem largest_eq (x : FVec Ideal S512x100000 .f32) : ∃ A, A = Host.reduce2 (reducer_argmax_f32_i32 (F := Ideal)) x
      (iotaInDim S512x100000 32 1) (constant S_ .f32 0xFF800000#32) (constantI S_ 32 0#32) reducesTo_S512x100000_S512_d1 h_S_ ∧
    Line.largest x = fun j => (A j).2 := by
  unfold Line.largest
  rw [Ideal.argReduce_eq_reduce2]
  exact ⟨_, rfl, rfl⟩

/-- What a reduction folds over at `j`, by any coordinate its elements are a function of. -/
theorem fiber_list {s t : Shape} {axes : List (Fin s.rank)} {α β γ : Type} (x : s.Idx → α) (y : s.Idx → β) (h : s.ReducesTo axes t)
    (j : t.Idx) (col : s.Idx → γ) (g : γ → α × β) (hg : ∀ i, h.drop i = j → (x i, y i) = g (col i)) :
    ∃ L : List γ, Host.argReduceFiber x y h j = L.map g ∧ ∀ c, c ∈ L ↔ ∃ i, h.drop i = j ∧ col i = c := by
  refine ⟨((List.finRange s.numel).filter fun n => h.drop (s.rowMajor.symm n) = j).map fun n => col (s.rowMajor.symm n), ?_, fun c => ?_⟩
  · unfold Host.argReduceFiber
    rw [List.map_map]
    refine List.map_congr_left fun n hn => ?_
    exact hg _ (of_decide_eq_true (List.mem_filter.mp hn).2)
  · rw [List.mem_map]
    constructor
    · rintro ⟨n, hn, e⟩
      exact ⟨_, of_decide_eq_true (List.mem_filter.mp hn).2, e⟩
    · rintro ⟨i, hi, e⟩
      refine ⟨s.rowMajor i, List.mem_filter.mpr ⟨List.mem_finRange _, decide_eq_true ?_⟩, ?_⟩
      · rw [Equiv.symm_apply_apply, hi]
      · rw [Equiv.symm_apply_apply, e]

/-- A row's elements drop to the row. -/
theorem drop_row (i : S512x100000.Idx) (r : Fin 512) : reducesTo_S512x100000_S512_d1.drop i = ix1 r ↔ i 0 = r := by
  have e : (reducesTo_S512x100000_S512_d1.drop i 0).val = (i 0).val := reducesTo_S512x100000_S512_d1.drop_apply_val_of_eq i 0 0
  constructor
  · intro h
    rw [h] at e
    exact Fin.ext e.symm
  · intro h
    refine funext fun b => Fin.ext ?_
    match b with
    | 0 => exact e.trans (congrArg Fin.val h)

/-- An element of a row, by its column. -/
theorem rowOf_apply (x : FVec Ideal S512x100000 .f32) (i : S512x100000.Idx) (r : Fin 512) (h : i 0 = r) : x i = rowOf x r (i 1).val := by
  have hc : (i 1).val < 100000 := (i 1).isLt
  unfold rowOf
  rw [dif_pos hc]
  refine congrArg x (funext fun a => ?_)
  match a with
  | 0 => exact h
  | 1 => rfl

/-- The index of the largest score of a row: the first index of the largest. -/
theorem largest_best (x : FVec Ideal S512x100000 .f32) (r : Fin 512) :
    ∃ v k, Line.largest x (ix1 r) = BitVec.ofNat 32 k ∧ Best (· < 100000) (rowOf x r) v k := by
  obtain ⟨L, hL, hmem⟩ := fiber_list x (iotaInDim S512x100000 32 1) reducesTo_S512x100000_S512_d1 (ix1 r) (fun i => (i 1).val)
    (fun a => ((rowOf x r a, BitVec.ofNat 32 a) : EReal × BitVec 32)) fun i hi => Prod.ext (rowOf_apply x i r ((drop_row i r).mp hi)) rfl
  have hlt : ∀ a ∈ L, a < 100000 := fun a ha => by
    obtain ⟨i, -, rfl⟩ := (hmem a).mp ha
    exact (i 1).isLt
  obtain ⟨v, k, e1, e2⟩ := foldl_best (rowOf x r) L (fun _ => False) ⊥ 0 hlt (by omega) Best.none
  refine ⟨v, k, ?_, e2.congr fun a => ⟨fun h => .inr ((hmem a).mpr ⟨ix2 r ⟨a, h⟩, (drop_row _ r).mpr rfl, rfl⟩), fun h => hlt a (h.resolve_left id)⟩⟩
  obtain ⟨A, hA, hl⟩ := largest_eq x
  have h0 : (constant (F := Ideal) S_ .f32 0xFF800000#32 (Shape.Idx.first h_S_), constantI S_ 32 0#32 (Shape.Idx.first h_S_))
      = ((⊥, BitVec.ofNat 32 0) : EReal × BitVec 32) := Prod.ext ofBits_bot rfl
  have c := Host.reduce2_eq_foldl_fiber (reducer_argmax_f32_i32 (F := Ideal)) x (iotaInDim S512x100000 32 1)
    (constant S_ .f32 0xFF800000#32) (constantI S_ 32 0#32) reducesTo_S512x100000_S512_d1 h_S_ (ix1 r)
  rw [← hA, hL, h0, e1] at c
  rw [hl]
  exact congrArg Prod.snd c

end Cert.Sampling

end
-- ==== Proof.Value.Rows.lean ====
/-
  The one-hot rows, at the ideal instance: a block of the kernel's output is the reference's result at that block's place.
-/
module

public import proofs.«01_k».proof.Proof.Value.Lanes
public import proofs.«01_k».proof.Proof.Value.Largest

@[expose] public section

set_option maxRecDepth 16384

noncomputable section

namespace Cert.Sampling

open Idealize.ShloMosaic Idealize.SL.Sem ValueIdx

/-- A bit widened to a word and read signed is the bit read unsigned. -/
theorem widen_bit (b : Bool) : (FloatOps.sitofp .f32 ((BitVec.ofBool b).setWidth 32) : Ideal .f32) = FloatOps.uitofp .f32 (BitVec.ofBool b) := by
  cases b
  · change (((BitVec.setWidth 32 (BitVec.ofBool false)).toInt : ℝ) : EReal) = (((BitVec.ofBool false).toNat : ℝ) : EReal)
    have e : (BitVec.setWidth 32 (BitVec.ofBool false)).toInt = 0 := by decide
    have e' : (BitVec.ofBool false).toNat = 0 := by decide
    rw [e, e']
    norm_num
  · change (((BitVec.setWidth 32 (BitVec.ofBool true)).toInt : ℝ) : EReal) = (((BitVec.ofBool true).toNat : ℝ) : EReal)
    have e : (BitVec.setWidth 32 (BitVec.ofBool true)).toInt = 1 := by decide
    have e' : (BitVec.ofBool true).toNat = 1 := by decide
    rw [e, e']
    norm_num

/-- The one-hot element of column `k` for the winning column `b`. -/
def oneHotAt (b : BitVec 32) (k : ℕ) : EReal := (FloatOps.uitofp .f32 (BitVec.ofBool (b == BitVec.ofNat 32 k)) : Ideal .f32)

/-- The same, the column counted from an offset. -/
theorem oneHot_offset (b : BitVec 32) (c l : ℕ) :
    (FloatOps.sitofp .f32 ((BitVec.ofBool (BitVec.ofNat 32 l == b - BitVec.ofNat 32 c)).setWidth 32) : Ideal .f32) = oneHotAt b (c + l) := by
  have e : (BitVec.ofNat 32 l == b - BitVec.ofNat 32 c) = (b == BitVec.ofNat 32 (c + l)) := by
    rw [Bool.eq_iff_iff, beq_iff_eq, beq_iff_eq, BitVec.ofNat_add]
    constructor
    · intro h
      rw [h, BitVec.add_comm, BitVec.sub_add_cancel]
    · intro h
      rw [h, BitVec.add_comm, BitVec.add_sub_cancel]
  rw [widen_bit, e, oneHotAt]

section kernel

open Cert.KernelIdeal Cert.KernelIdeal.Gen Cert.KernelIdeal.Sample

/-- A row of the block, by its two coordinates. -/
def rowIx (a : Fin 2) (b : Fin 4) : Fin 8 := ⟨4 * a.val + b.val, by omega⟩

/-- A chunk of the kernel's one-hot rows. -/
theorem hot_apply (b : IVec S8x1 32) (j : ℕ) (x : Fin 2) (y : Fin 4) (l : Fin 2048) :
    hot (F := Ideal) b j (ix3 x y l) = oneHotAt (b (ix2 (rowIx x y) 0)) (2048 * j + l.val) := by
  unfold hot
  rw [shapeCast_apply _ _ _ (ix2 (rowIx x y) l : S8x2048.Idx)]
  · refine Eq.trans ?_ (oneHot_offset _ _ _)
    change (FloatOps.sitofp .f32 ((BitVec.ofBool (iota .tc S8x2048 32 [1] iota_S8x2048_d1_w32 (ix2 (rowIx x y) l)
      == broadcastTo S8x2048 (subi b (broadcast S8x1 (BitVec.ofNat 32 (2048 * j)))) broadcasts_S8x1_S8x2048 (ix2 (rowIx x y) l))).setWidth 32) : Ideal .f32) = _
    rw [spread, lane]
    rfl
  · rw [Shape.rowMajor_val_three, Shape.rowMajor_val_two]
    change (4 * x.val + y.val) * 2048 + l.val = (x.val * 4 + y.val) * 2048 + l.val
    rw [Nat.mul_comm 4]

/-- The remaining columns of the kernel's one-hot rows. -/
theorem hotTail_apply (b : IVec S8x1 32) (x : Fin 2) (y : Fin 4) (l : Fin 1696) :
    hotTail (F := Ideal) b (ix3 x y l) = oneHotAt (b (ix2 (rowIx x y) 0)) (98304 + l.val) := by
  unfold hotTail
  rw [shapeCast_apply _ _ _ (ix2 (rowIx x y) l : S8x1696.Idx)]
  · refine Eq.trans ?_ (oneHot_offset _ _ _)
    change (FloatOps.sitofp .f32 ((BitVec.ofBool (iota .tc S8x1696 32 [1] iota_S8x1696_d1_w32 (ix2 (rowIx x y) l)
      == broadcastTo S8x1696 (subi b (broadcast S8x1 98304#32)) broadcasts_S8x1_S8x1696 (ix2 (rowIx x y) l))).setWidth 32) : Ideal .f32) = _
    rw [spreadTail, laneTail]
    rfl
  · rw [Shape.rowMajor_val_three, Shape.rowMajor_val_two]
    change (4 * x.val + y.val) * 1696 + l.val = (x.val * 4 + y.val) * 1696 + l.val
    rw [Nat.mul_comm 4]

/-- The kernel's one-hot rows, element by element. -/
theorem rows_apply (b : IVec S8x1 32) (y : S2x4x100000.Idx) :
    rows (F := Ideal) b y = oneHotAt (b (ix2 (rowIx (y 0) (y 1)) 0)) (y 2).val := by
  have hy : (y 2).val < 100000 := (y 2).isLt
  unfold rows
  split
  · exact (hot_apply b _ (y 0) (y 1) _).trans (congrArg (oneHotAt _) (Nat.div_add_mod _ _))
  · exact (hotTail_apply b (y 0) (y 1) _).trans (congrArg (oneHotAt _) (Nat.add_sub_cancel' (by omega)))

end kernel

section reference

open Cert.ReferenceIdeal Cert.ReferenceIdeal.Facts₀

/-- The reference's one-hot rows, element by element. -/
theorem hotRows_apply (k : IVec S512 32) (r : Fin 512) (l : Fin 100000) :
    Line.hotRows (F := Ideal) k (ix2 r l) = oneHotAt (k (ix1 r)) l.val := by
  change (FloatOps.uitofp .f32 (BitVec.ofBool
    (broadcastInDim S512x100000 ![0, 1] bcast_S512x1_S512x100000_0_1 (broadcastInDim S512x1 ![0] bcast_S512_S512x1_0 k) (ix2 r l)
      == broadcastInDim S512x100000 ![0, 1] bcast_S1x100000_S512x100000_0_1 (iotaInDim S1x100000 32 1) (ix2 r l))) : Ideal .f32) = _
  rw [broadcastInDim_apply _ _ _ _ (ix2 r 0 : S512x1.Idx), broadcastInDim_apply _ _ _ _ (ix1 r : S512.Idx),
    broadcastInDim_apply _ _ _ _ (ix2 0 l : S1x100000.Idx)]
  · rfl
  · intro a
    match a with
    | 0 => rfl
    | 1 => rfl
  · intro a
    match a with
    | 0 => rfl
  · intro a
    match a with
    | 0 => rfl
    | 1 => rfl

variable (p : FVec Ideal S128x4x100000 .f32)

/-- A flat row, by its two coordinates. -/
def flatRow (a : Fin 128) (b : Fin 4) : Fin 512 := ⟨4 * a.val + b.val, by omega⟩

/-- The reference's result, element by element. -/
theorem result_apply (a : Fin 128) (b : Fin 4) (l : Fin 100000) :
    Line.result p (ix3 a b l) = oneHotAt (Line.largest (Line.scores Line.allWords
      (shapeCast S512x100000 p shapeCasts_S128x4x100000_S512x100000)) (ix1 (flatRow a b))) l.val := by
  unfold Line.result
  rw [shapeCast_apply _ _ _ (ix2 (flatRow a b) l : S512x100000.Idx), hotRows_apply]
  rw [Shape.rowMajor_val_three, Shape.rowMajor_val_two]
  change (4 * a.val + b.val) * 100000 + l.val = (a.val * 4 + b.val) * 100000 + l.val
  rw [Nat.mul_comm 4]

/-- The reference's scores of a row, by column. -/
theorem rowOf_scores (a : Fin 128) (b : Fin 4) (k : ℕ) (hk : k < 100000) :
    rowOf (Line.scores Line.allWords (shapeCast S512x100000 p shapeCasts_S128x4x100000_S512x100000)) (flatRow a b) k
      = scoreAt ((4 * a.val + b.val) * 100000 + k) (p (ix3 a b ⟨k, hk⟩)) := by
  unfold rowOf
  rw [dif_pos hk, scores_apply, shapeCast_apply _ _ _ (ix3 a b ⟨k, hk⟩ : S128x4x100000.Idx)]
  · rfl
  rw [Shape.rowMajor_val_three, Shape.rowMajor_val_two]
  change (a.val * 4 + b.val) * 100000 + k = (4 * a.val + b.val) * 100000 + k
  rw [Nat.mul_comm 4]

end reference

/-- A block of the kernel's output is the reference's result at the block's place. -/
theorem block_eq (p : FVec Ideal ReferenceIdeal.S128x4x100000 .f32) (i : KernelIdeal.grid0.Coords) (X : Vec Ideal KernelIdeal.S2x4x100000 .f32)
    (hi : (i 0).val < 64)
    (hX : ∀ (a : Fin 2) (b : Fin 4) (l : Fin 100000), X (ix3 a b l) = p (ix3 ⟨2 * (i 0).val + a.val, by omega⟩ b l))
    (a : Fin 2) (b : Fin 4) (l : Fin 100000) :
    KernelIdeal.Sample.outOf i X (ix3 a b l) = ReferenceIdeal.Line.result p (ix3 ⟨2 * (i 0).val + a.val, by omega⟩ b l) := by
  unfold KernelIdeal.Sample.outOf
  rw [rows_apply, result_apply]
  refine congrArg (fun w => oneHotAt w l.val) ?_
  obtain ⟨v, k, e, h⟩ := winners_best i X (rowIx a b)
  obtain ⟨v', k', e', h'⟩ := largest_best (ReferenceIdeal.Line.scores ReferenceIdeal.Line.allWords
    (shapeCast ReferenceIdeal.S512x100000 p ReferenceIdeal.Facts₀.shapeCasts_S128x4x100000_S512x100000))
    (flatRow ⟨2 * (i 0).val + a.val, by omega⟩ b)
  have hf : ∀ c, c < 100000 → rowOf (ReferenceIdeal.Line.scores ReferenceIdeal.Line.allWords
      (shapeCast ReferenceIdeal.S512x100000 p ReferenceIdeal.Facts₀.shapeCasts_S128x4x100000_S512x100000))
      (flatRow ⟨2 * (i 0).val + a.val, by omega⟩ b) c = rowF i X (rowIx a b) c := fun c hc => by
    rw [rowOf_scores _ _ _ c hc]
    unfold rowF rowScore probs
    rw [dif_pos hc]
    have e1 : (⟨(rowIx a b).val / 4, by have := (rowIx a b).isLt; omega⟩ : Fin 2) = a := Fin.ext (by unfold rowIx; simp only; omega)
    have e2 : (⟨(rowIx a b).val % 4, by omega⟩ : Fin 4) = b := Fin.ext (by unfold rowIx; simp only; omega)
    rw [e1, e2, hX]
    refine congrArg (fun n => scoreAt n _) ?_
    unfold base rowIx
    simp only
    omega
  have hk : k = k' := h.unique (by omega) (h'.congr_val fun c hc => (hf c hc).symm)
  exact (e.trans (congrArg _ hk)).trans e'.symm

end Cert.Sampling

end
-- ==== Proof.Value.Result.lean ====
/-
  The result array of the idealized kernel is the reference's function of the argument, at the ideal instance.
-/
module

public import proofs.«01_k».proof.Defs
public import proofs.«01_k».proof.Proof.Value.Rows
public import proofs.«01_k».proof.Proof.Sample.Run
public import proofs.«01_k».proof.Proof.Gen.KernelIdeal
public import proofs.«01_k».proof.Proof.Gen.ReferenceIdeal
public import Idealize.ShloMosaic.Lib.Pipeline.ValueKit
public import Idealize.ShloMosaic.Lib.Claim

@[expose] public section

set_option maxRecDepth 16384

noncomputable section

namespace Cert.Sampling

open Cert.KernelIdeal Cert.KernelIdeal.Gen Cert.KernelIdeal.Sample
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where the input's block lies at a point. -/
theorem place_in : ∀ t : Fin cfg0.N, win0_0.index t = ![(grid0.coords t 0).val, 0, 0] := (by decide +kernel : ∀ t : Fin grid0.N, _)

/-- Where the output's block lies at a point. -/
theorem place_out : ∀ t : Fin cfg0.N, win0_1.index t = ![(grid0.coords t 0).val, 0, 0] := (by decide +kernel : ∀ t : Fin grid0.N, _)

/-- The grid has 64 points. -/
theorem point_lt (t : Fin cfg0.N) : (grid0.coords t 0).val < 64 := (grid0.coords t 0).isLt

/-- The input's block at a point, read at an index. -/
theorem block_in (c : Dev nD) (t : Fin cfg0.N) (a : Fin 2) (b : Fin 4) (l : Fin 100000) :
    iblk m c 0 t (ValueIdx.ix3 a b l) = m ((c : Thread nD τ).loc main_arg0)
      (ValueIdx.ix3 ⟨2 * (grid0.coords t 0).val + a.val, by have := point_lt t; omega⟩ b l) := by
  blk_ext [iblk, V, place_in t]
  exact congrArg (· + a.val) (Nat.mul_comm _ _)

/-- The output array after the run. -/
theorem array_out (c : Dev nD) :
    (data m 0 c).arrAt 1 cfg0.N = ReferenceIdeal.Line.result (F := Ideal) (m ((c : Thread nD τ).loc main_arg0)) := by
  refine (data m 0 c).arrAt_eq_of_covers 1 _ (by decide +kernel) fun t _ y => ?_
  blk_simp
  rw [after_out]
  have e : ((cfg0.win 1).blk t).view.emb y = ValueIdx.ix3 ⟨2 * (grid0.coords t 0).val + (y 0).val, by
      have := point_lt t
      have : (y 0).val < 2 := (y 0).isLt
      omega⟩ (y 1) (y 2) := by
    blk_ext [place_out t]
  refine Eq.trans ?_ (congrArg (ReferenceIdeal.Line.result (F := Ideal) (m ((c : Thread nD τ).loc main_arg0))) e.symm)
  refine Eq.trans (congrArg (outOf (F := Ideal) (grid0.coords t) (iblk m c 0 t)) (ValueIdx.eq_ix3 y)) ?_
  exact block_eq _ (grid0.coords t) (iblk m c 0 t) (point_lt t) (block_in m c t) (y 0) (y 1) (y 2)

/-- The idealized kernel's run: its result is the reference's function of the argument, and the argument is as it was. -/
theorem run_kernel : θ_run defs (onTc (τ := τ) (main (F := Ideal))) ⟨m, fun _ => 0, ρ⟩ (fun r => ∀ c : Dev nD,
    r.2.mem ((c.tc : Thread nD τ).loc main_v0) = ReferenceIdeal.Line.result (F := Ideal) (m ((c : Thread nD τ).loc main_arg0))
    ∧ r.2.mem ((c.tc : Thread nD τ).loc main_arg0) = m ((c.tc : Thread nD τ).loc main_arg0)) :=
  (θ_run defs _ _).mono (fun _ h c => ⟨((h c).1 1).trans (array_out m c),
    ((h c).1 0).trans (((data m 0 c).arrAt_in 0 rfl _).trans ((data_A m c 0).trans (V_main_arg0 m c)))⟩) (run_arrays m ρ)

/-- The idealized kernel and the idealized reference, run on the same argument, end with the same result. -/
theorem agree : Cert.algebraic_KernelIdeal_ReferenceIdeal (hKernelIdeal := Cert.KernelIdeal.Gen.facts)
    (hReferenceIdeal := Cert.ReferenceIdeal.Gen.facts) := fun m g m' g' _ h =>
  ⟨fun c => ReferenceIdeal.Line.result (F := Ideal) (m ((c : Thread nD τ).loc main_arg0)), run_kernel m g,
    θ_run_mono (ReferenceIdeal.Line.run_result (F := Ideal) m' g') fun _ hr c =>
      ⟨(hr c).1.trans (congrArg (ReferenceIdeal.Line.result (F := Ideal)) (h c)), (hr c).2⟩⟩

end Cert.Sampling

end
-- ==== Proof.lean ====
/-
  The proof of the claims: the frames of the three programs, that the idealized kernel keeps the kernel's text,
  and that the idealized kernel and the idealized reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Sample.Printed
public import proofs.«01_k».proof.Proof.Reference.Run
public import proofs.«01_k».proof.Proof.Value.Result
public import Idealize.ShloMosaic.Adequacy
public import Idealize.ShloMosaic.Init

@[expose] public section

noncomputable section

namespace Cert.Proof

open Idealize.ShloMosaic Idealize.SL.Sem Cert.Kernel

/-- Every claim, each at the facts its program states. -/
theorem claim : Cert.Claim := ⟨Cert.Kernel.Gen.facts, Cert.KernelIdeal.Gen.facts, Cert.ReferenceIdeal.Gen.facts,
  Cert.KernelIdeal.Sample.quiet_printed, fun m g _ => Cert.KernelIdeal.Sample.quiet m g,
  fun m g _ => Cert.ReferenceIdeal.Line.quiet m g, trivial, Cert.Sampling.agree⟩

end Cert.Proof

end
